-- ==== Defs.lean ====
def Pre_Kernel [hPre_positions_in_table : Cert.Pre_positions_in_table.Facts] (m : (ℓ : Loc Cert.Kernel.nD Cert.Kernel.τ Cert.Kernel.sig) → Buf (Elt Bits) ℓ) : Prop :=
  ∀ c : Dev Cert.Kernel.nD,
    (Cert.Pre_positions_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_positions_in_table : Cert.Pre_positions_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_positions_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_sine_table [hPre_sine_table : Cert.Pre_sine_table.Facts] (m : (ℓ : Loc Cert.KernelIdeal.nD Cert.KernelIdeal.τ Cert.KernelIdeal.sig) → Buf (Elt Ideal) ℓ) : Prop :=
  ∀ c : Dev Cert.KernelIdeal.nD,
    (Cert.Pre_sine_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sine_table [hPre_sine_table : Cert.Pre_sine_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sine_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_positions_in_table : Cert.Pre_positions_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_positions_in_table : Cert.Pre_positions_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sine_table [hKernelIdeal : Cert.KernelIdeal.Facts] [hPre_sine_table : Cert.Pre_sine_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sine_table m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sine_table [hReferenceIdeal : Cert.ReferenceIdeal.Facts] [hPre_sine_table : Cert.Pre_sine_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sine_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sine_table [hKernelIdeal : Cert.KernelIdeal.Facts] [hReferenceIdeal : Cert.ReferenceIdeal.Facts] [hPre_sine_table : Cert.Pre_sine_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sine_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_positions_in_table : Cert.Pre_positions_in_table.Facts) (hPre_sine_table : Cert.Pre_sine_table.Facts),
    quiescent_Kernel (hKernel := hKernel) (hPre_positions_in_table := hPre_positions_in_table)
    ∧ quiescent_KernelIdeal (hKernelIdeal := hKernelIdeal) (hPre_positions_in_table := hPre_positions_in_table)
    ∧ quiescent_KernelIdeal_pre_sine_table (hKernelIdeal := hKernelIdeal) (hPre_sine_table := hPre_sine_table)
    ∧ quiescent_ReferenceIdeal (hReferenceIdeal := hReferenceIdeal)
    ∧ quiescent_ReferenceIdeal_pre_sine_table (hReferenceIdeal := hReferenceIdeal) (hPre_sine_table := hPre_sine_table)
    ∧ preserves_Kernel_KernelIdeal
    ∧ algebraic_KernelIdeal_ReferenceIdeal_pre_sine_table (hKernelIdeal := hKernelIdeal) (hReferenceIdeal := hReferenceIdeal) (hPre_sine_table := hPre_sine_table)
-- ==== Pre_positions_in_table.lean ====
abbrev S4x32x4096x128 : Shape := ⟨4, ![4, 32, 4096, 128]⟩
abbrev S4x4096 : Shape := ⟨2, ![4, 4096]⟩
abbrev S8192x128 : Shape := ⟨2, ![8192, 128]⟩
abbrev S_ : Shape := ⟨0, ![]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel

variable [Facts]

def fn {F : FTy → Type} [FloatOps F] (main_arg0 : FVec F S4x32x4096x128 .f32) (main_arg1 : IVec S4x4096 32) (main_arg2 : FVec F S8192x128 .f32) (main_arg3 : FVec F S8192x128 .f32) : IVec S_ 1 :=
  let main_c : IVec S_ 32 := constantI S_ 32 0#32
  let main_v0 : IVec S4x4096 32 := broadcastInDim S4x4096 ![] bcast_S_S4x4096 main_c
  let main_v1 : IVec S4x4096 1 := cmpi .sge main_arg1 main_v0
  let main_c_0 : IVec S_ 1 := constantI S_ 1 1#1
  let main_v2 : IVec S_ 1 := (fun x v => Host.reduce IntOp.andi x v reducesTo_S4x4096_S_d0_1 h_S_) main_v1 main_c_0
  let main_c_1 : IVec S_ 32 := constantI S_ 32 8192#32
  let main_v3 : IVec S4x4096 32 := broadcastInDim S4x4096 ![] bcast_S_S4x4096 main_c_1
  let main_v4 : IVec S4x4096 1 := cmpi .slt main_arg1 main_v3
  let main_c_2 : IVec S_ 1 := constantI S_ 1 1#1
  let main_v5 : IVec S_ 1 := (fun x v => Host.reduce IntOp.andi x v reducesTo_S4x4096_S_d0_1 h_S_) main_v4 main_c_2
  let main_v6 : IVec S_ 1 := andi main_v2 main_v5
  main_v6
-- ==== Pre_sine_table.lean ====
abbrev S4x32x4096x128 : Shape := ⟨4, ![4, 32, 4096, 128]⟩
abbrev S4x4096 : Shape := ⟨2, ![4, 4096]⟩
abbrev S8192x128 : Shape := ⟨2, ![8192, 128]⟩
abbrev S_ : Shape := ⟨0, ![]⟩
abbrev S64 : Shape := ⟨1, ![64]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel
  bcast_S_S64 : S_.BroadcastsInDim S64 (![] : Fin 0 → Fin S64.rank)
  bcast_S8192_S8192x1_0 : S8192.BroadcastsInDim S8192x1 (![0] : Fin 1 → Fin S8192x1.rank)
  bcast_S64_S1x64_1 : S64.BroadcastsInDim S1x64 (![1] : Fin 1 → Fin S1x64.rank)
  bcast_S8192x1_S8192x64_0_1 : S8192x1.BroadcastsInDim S8192x64 (![0, 1] : Fin 2 → Fin S8192x64.rank)
  bcast_S1x64_S8192x64_0_1 : S1x64.BroadcastsInDim S8192x64 (![0, 1] : Fin 2 → Fin S8192x64.rank)
  concatenates_S8192x64_S8192x64_S8192x128_d1 : Shape.Concatenates [S8192x64, S8192x64] S8192x128 1
  reducesTo_S8192x128_S_d0_1 : S8192x128.ReducesTo [0, 1] S_

variable [Facts]

def fn_part1 {F : FTy → Type} [FloatOps F] (main_arg3 : FVec F S8192x128 .f32) (main_v6 : IVec S_ 1) (main_v15 : FVec F S64 .f32) : IVec S_ 1 :=
  let main_cst_6 : FVec F S_ .f32 := constant S_ .f32 0x3F800000#32
  let main_v16 : FVec F S64 .f32 := broadcastInDim S64 ![] bcast_S_S64 main_cst_6
  let main_v17 : FVec F S64 .f32 := Host.divf main_v16 main_v15
  let main_v18 : FVec F S8192 .f32 := sitofp .f32 (iotaInDim S8192 32 0)
  let main_v19 : FVec F S8192x1 .f32 := broadcastInDim S8192x1 ![0] bcast_S8192_S8192x1_0 main_v18
  let main_v20 : FVec F S1x64 .f32 := broadcastInDim S1x64 ![1] bcast_S64_S1x64_1 main_v17
  let main_v21 : FVec F S8192x64 .f32 := broadcastInDim S8192x64 ![0, 1] bcast_S8192x1_S8192x64_0_1 main_v19
  let main_v22 : FVec F S8192x64 .f32 := broadcastInDim S8192x64 ![0, 1] bcast_S1x64_S8192x64_0_1 main_v20
  let main_v23 : FVec F S8192x64 .f32 := mulf main_v21 main_v22
  let main_v24 : FVec F S8192x128 .f32 := (fun a b => concatenate S8192x128 1 [⟨S8192x64, a⟩, ⟨S8192x64, b⟩] concatenates_S8192x64_S8192x64_S8192x128_d1) main_v23 main_v23
  let main_v25 : FVec F S8192x128 .f32 := Host.cos main_v24
  let main_v26 : FVec F S8192x128 .f32 := Host.sin main_v24
  let main_v27 : IVec S8192x128 1 := cmpf .oeq main_arg3 main_v26
  let main_c_7 : IVec S_ 1 := constantI S_ 1 1#1
  let main_v28 : IVec S_ 1 := (fun x v => Host.reduce IntOp.andi x v reducesTo_S8192x128_S_d0_1 h_S_) main_v27 main_c_7
  let main_v29 : IVec S_ 1 := andi main_v6 main_v28
  main_v29

def fn {F : FTy → Type} [FloatOps F] (main_arg0 : FVec F S4x32x4096x128 .f32) (main_arg1 : IVec S4x4096 32) (main_arg2 : FVec F S8192x128 .f32) (main_arg3 : FVec F S8192x128 .f32) : IVec S_ 1 :=
  let main_c : IVec S_ 32 := constantI S_ 32 0#32
  let main_v0 : IVec S4x4096 32 := broadcastInDim S4x4096 ![] bcast_S_S4x4096 main_c
  let main_v1 : IVec S4x4096 1 := cmpi .sge main_arg1 main_v0
  let main_c_0 : IVec S_ 1 := constantI S_ 1 1#1
  let main_v2 : IVec S_ 1 := (fun x v => Host.reduce IntOp.andi x v reducesTo_S4x4096_S_d0_1 h_S_) main_v1 main_c_0
  let main_c_1 : IVec S_ 32 := constantI S_ 32 8192#32
  let main_v3 : IVec S4x4096 32 := broadcastInDim S4x4096 ![] bcast_S_S4x4096 main_c_1
  let main_v4 : IVec S4x4096 1 := cmpi .slt main_arg1 main_v3
  let main_c_2 : IVec S_ 1 := constantI S_ 1 1#1
  let main_v5 : IVec S_ 1 := (fun x v => Host.reduce IntOp.andi x v reducesTo_S4x4096_S_d0_1 h_S_) main_v4 main_c_2
  let main_v6 : IVec S_ 1 := andi main_v2 main_v5
  let main_v7 : FVec F S64 .f32 := sitofp .f32 (iotaInDim S64 32 0)
  let main_cst : FVec F S_ .f32 := constant S_ .f32 0x40000000#32
  let main_v8 : FVec F S64 .f32 := broadcastInDim S64 ![] bcast_S_S64 main_cst
  let main_v9 : FVec F S64 .f32 := mulf main_v8 main_v7
  let main_cst_3 : FVec F S_ .f32 := constant S_ .f32 0x00000000#32
  let main_v10 : FVec F S64 .f32 := broadcastInDim S64 ![] bcast_S_S64 main_cst_3
  let main_v11 : FVec F S64 .f32 := addf main_v10 main_v9
  let main_cst_4 : FVec F S_ .f32 := constant S_ .f32 0x43000000#32
  let main_v12 : FVec F S64 .f32 := broadcastInDim S64 ![] bcast_S_S64 main_cst_4
  let main_v13 : FVec F S64 .f32 := Host.divf main_v11 main_v12
  let main_cst_5 : FVec F S_ .f32 := constant S_ .f32 0x461C4000#32
  let main_v14 : FVec F S64 .f32 := broadcastInDim S64 ![] bcast_S_S64 main_cst_5
  let main_v15 : FVec F S64 .f32 := Host.powf main_v14 main_v13
  fn_part1 (F := F) main_arg3 main_v6 main_v15
-- ==== Kernel.lean ====
abbrev S4x32x4096x128 : Shape := ⟨4, ![4, 32, 4096, 128]⟩
abbrev S4x4096 : Shape := ⟨2, ![4, 4096]⟩
abbrev S8192x128 : Shape := ⟨2, ![8192, 128]⟩
abbrev S64 : Shape := ⟨1, ![64]⟩
abbrev S_ : Shape := ⟨0, ![]⟩
abbrev S128 : Shape := ⟨1, ![128]⟩
abbrev S1x128 : Shape := ⟨2, ![1, 128]⟩
abbrev S4x4096x128 : Shape := ⟨3, ![4, 4096, 128]⟩
abbrev S512 : Shape := ⟨1, ![512]⟩
abbrev S4x128x128 : Shape := ⟨3, ![4, 128, 128]⟩
abbrev S4 : Shape := ⟨1, ![4]⟩
abbrev S1x512 : Shape := ⟨2, ![1, 512]⟩
abbrev S1x128x128 : Shape := ⟨3, ![1, 128, 128]⟩
abbrev S128x128 : Shape := ⟨2, ![128, 128]⟩
abbrev S1 : Shape := ⟨1, ![1]⟩
abbrev S1x1024x128 : Shape := ⟨3, ![1, 1024, 128]⟩
abbrev S1x1024 : Shape := ⟨2, ![1, 1024]⟩
abbrev S1024 : Shape := ⟨1, ![1024]⟩
abbrev S1024x1 : Shape := ⟨2, ![1024, 1]⟩
abbrev S1024x128 : Shape := ⟨2, ![1024, 128]⟩

abbrev nBuf : Table → Nat
  | .hbm => 24
  | .local .tc .vmem => 4
  | .local .scVector .vmem => 2
  | _ => 0

abbrev bufTy : (tb : Table) → Fin (nBuf tb) → BufTy
  | .hbm, ⟨0, _⟩ => ⟨S4x32x4096x128, .f32⟩
  | .hbm, ⟨1, _⟩ => ⟨S4x4096, .i32⟩
  | .hbm, ⟨2, _⟩ => ⟨S8192x128, .f32⟩
  | .hbm, ⟨3, _⟩ => ⟨S8192x128, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S128, .f32⟩
  | .hbm, ⟨21, _⟩ => ⟨S1x128, .f32⟩
  | .hbm, ⟨22, _⟩ => ⟨S4x4096x128, .f32⟩
  | .hbm, ⟨23, _⟩ => ⟨S4x4096x128, .f32⟩
  | .local .tc .vmem, ⟨0, _⟩ => ⟨S4x4096, .i32⟩
  | .local .tc .vmem, ⟨1, _⟩ => ⟨S1x128, .f32⟩
  | .local .tc .vmem, ⟨2, _⟩ => ⟨S1x1024x128, .f32⟩
  | .local .tc .vmem, ⟨3, _⟩ => ⟨S1x1024x128, .f32⟩
  | .local .scVector .vmem, ⟨0, _⟩ => ⟨S512, .i32⟩
  | .local .scVector .vmem, ⟨1, _⟩ => ⟨S4x128x128, .f32⟩
  | _, _ => ⟨S4x32x4096x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_arg2_scv : Ref sig .scVector := ⟨.hbm, 2, rfl⟩
abbrev main_arg1_scv : Ref sig .scVector := ⟨.hbm, 1, rfl⟩
abbrev main_v13_scv : Ref sig .scVector := ⟨.hbm, 22, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc0_scratch0 : Ref sig .scVector := ⟨.vmem, 0, rfl⟩
abbrev cc0_scratch1 : Ref sig .scVector := ⟨.vmem, 1, rfl⟩
abbrev cc1_sem0_0 : DmaSem sig := 9
abbrev cc1_sem1_0 : DmaSem sig := 10
abbrev cc1_sem2_0 : DmaSem sig := 11
abbrev cc1_sem2_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  ![v18.toNat, v29.toNat]
def k0_off2 (i : grid0.Coords) (c0_i32_41 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v60 : BitVec 32 := Scalar.addi v29 c0_i32_41
  let c0_i32_46 : BitVec 32 := 0#32
  ![v18.toNat, v60.toNat, 0]
abbrev grid1 : Pipeline.Grid := ⟨2, ![4, 4], ![false, false]⟩

def k1_off1 (i : grid1.Coords) : Fin 2 → Nat :=
  let arg0 : BitVec 32 := BitVec.ofNat 32 (i 0).val
  let v1 : Index := Scalar.indexCast arg0
  let arg1 : BitVec 32 := BitVec.ofNat 32 (i 1).val
  let c1024_i32 : BitVec 32 := 1024#32
  let v0 : BitVec 32 := Scalar.muli arg1 c1024_i32
  let v2 : Index := Scalar.indexCast v0
  ![v1.toNat, v2.toNat]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .vmem S4x4096 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x32x4096x128 : Shape := ⟨4, ![4, 32, 4096, 128]⟩
abbrev S4x4096 : Shape := ⟨2, ![4, 4096]⟩
abbrev S8192x128 : Shape := ⟨2, ![8192, 128]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S4x4096x128 : Shape := ⟨3, ![4, 4096, 128]⟩

abbrev nBuf : Space → Nat
  | .hbm => 50
  | .vmem => 0
  | .smem => 0
  | _ => 0

abbrev bufTy : (tb : Table) → Fin (tcTables nBuf tb) → BufTy
  | .hbm, ⟨0, _⟩ => ⟨S4x32x4096x128, .f32⟩
  | .hbm, ⟨1, _⟩ => ⟨S4x4096, .i32⟩
  | .hbm, ⟨2, _⟩ => ⟨S8192x128, .f32⟩
  | .hbm, ⟨3, _⟩ => ⟨S8192x128, .f32⟩
  | .hbm, ⟨4, _⟩ => ⟨S_, .i32⟩
  | .hbm, ⟨5, _⟩ => ⟨S4x4096, .i32⟩
  | .hbm, ⟨6, _⟩ => ⟨S4x4096, .i1⟩
  | .hbm, ⟨7, _⟩ => ⟨S_, .i32⟩
  | .hbm, ⟨8, _⟩ => ⟨S4x4096, .i32⟩
  | .hbm, ⟨9, _⟩ => ⟨S4x4096, .i32⟩
  | .hbm, ⟨10, _⟩ => ⟨S4x4096, .i32⟩
  | .hbm, ⟨11, _⟩ => ⟨S4x4096x1, .i32⟩
  | .hbm, ⟨12, _⟩ => ⟨S1, .i32⟩
  | .hbm, ⟨13, _⟩ => ⟨S_, .i32⟩
  | .hbm, ⟨14, _⟩ => ⟨S4x4096x1, .i32⟩
  | .hbm, ⟨15, _⟩ => ⟨S4x4096x1, .i1⟩
  | .hbm, ⟨16, _⟩ => ⟨S1x1x1, .i32⟩
  | .hbm, ⟨17, _⟩ => ⟨S4x4096x1, .i32⟩
  | .hbm, ⟨18, _⟩ => ⟨S4x4096x1, .i1⟩
  | .hbm, ⟨19, _⟩ => ⟨S4x4096x1, .i1⟩
  | .hbm, ⟨20, _⟩ => ⟨S_, .i1⟩
  | .hbm, ⟨21, _⟩ => ⟨S4x4096, .i1⟩
  | .hbm, ⟨22, _⟩ => ⟨S4x4096x128, .f32⟩
  | .hbm, ⟨23, _⟩ => ⟨S4x4096x128, .i1⟩
  | .hbm, ⟨24, _⟩ => ⟨S_, .f32⟩
  | .hbm, ⟨25, _⟩ => ⟨S4x4096x128, .f32⟩
  | .hbm, ⟨26, _⟩ => ⟨S4x4096x128, .f32⟩
  | .hbm, ⟨27, _⟩ => ⟨S_, .i32⟩
  | .hbm, ⟨28, _⟩ => ⟨S4x4096, .i32⟩
  | .hbm, ⟨29, _⟩ => ⟨S4x4096, .i1⟩
  | .hbm, ⟨30, _⟩ => ⟨S_, .i32⟩
  | .hbm, ⟨31, _⟩ => ⟨S4x4096, .i32⟩
  | .hbm, ⟨32, _⟩ => ⟨S4x4096, .i32⟩
  | .hbm, ⟨33, _⟩ => ⟨S4x4096, .i32⟩
  | .hbm, ⟨34, _⟩ => ⟨S4x4096x1, .i32⟩
  | .hbm, ⟨35, _⟩ => ⟨S1, .i32⟩
  | .hbm, ⟨36, _⟩ => ⟨S_, .i32⟩
  | .hbm, ⟨37, _⟩ => ⟨S4x4096x1, .i32⟩
  | .hbm, ⟨38, _⟩ => ⟨S4x4096x1, .i1⟩
  | .hbm, ⟨39, _⟩ => ⟨S1x1x1, .i32⟩
  | .hbm, ⟨40, _⟩ => ⟨S4x4096x1, .i32⟩
  | .hbm, ⟨41, _⟩ => ⟨S4x4096x1, .i1⟩
  | .hbm, ⟨42, _⟩ => ⟨S4x4096x1, .i1⟩
  | .hbm, ⟨43, _⟩ => ⟨S_, .i1⟩
  | .hbm, ⟨44, _⟩ => ⟨S4x4096, .i1⟩
  | .hbm, ⟨45, _⟩ => ⟨S4x4096x128, .f32⟩
  | .hbm, ⟨46, _⟩ => ⟨S4x4096x128, .i1⟩
  | .hbm, ⟨47, _⟩ => ⟨S_, .f32⟩
  | .hbm, ⟨48, _⟩ => ⟨S4x4096x128, .f32⟩
  | .hbm, ⟨49, _⟩ => ⟨S4x4096x128, .f32⟩
  | _, _ => ⟨S4x32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩

abbrev nD : Nat := 1
abbrev τ : Topo := Topo.v7x

variable {F : FTy → Type} [FloatOps F]
-- ==== Proof.Setup.lean ====
/-
  The kernel program as the SparseCore launch theorem sees it, the ghost state of the proof, and the geometry of
  one tile's work.

  Thirty-two tiles, 16 on each of 2 SparseCores, share the 4 x 4096 positions: tile `(c, s)` is worker
  `2 s + c`, and takes 512 consecutive positions of one row of the position array, in four chunks of 128. Chunk
  `t` of that worker is the set of output places `(b, p, x)` with `32 b + p / 128 = 4 (2 s + c) + t`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.ValueIdxCore
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state: the handshakes' rounds, the TensorCore pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The launch memory and the buffers -/

variable (m : (ℓ : Loc nD τ sig) → Buf (Elt F) ℓ) (ρ : Dev nD → PrngReg)

/-- The positions, the cosine table, and the gathered cosines, in device memory. -/
abbrev iLoc (d : Dev nD) : Loc nD τ sig := (SparseCore.T d).loc main_arg1
abbrev xLoc (d : Dev nD) : Loc nD τ sig := (SparseCore.T d).loc main_arg2
abbrev oLoc (d : Dev nD) : Loc nD τ sig := (SparseCore.T d).loc main_v13

local notation "iV" => (Memref.whole Cert.KernelIdeal.main_arg1_scv : Memref Cert.KernelIdeal.sig Kind.scVector Space.hbm Cert.KernelIdeal.S4x4096 EltTy.i32)
local notation "xV" => (Memref.whole Cert.KernelIdeal.main_arg2_scv : Memref Cert.KernelIdeal.sig Kind.scVector Space.hbm Cert.KernelIdeal.S8192x128 EltTy.f32)
local notation "oV" => (Memref.whole Cert.KernelIdeal.main_v13_scv : Memref Cert.KernelIdeal.sig Kind.scVector Space.hbm Cert.KernelIdeal.S4x4096x128 EltTy.f32)
local notation "sV" => (Memref.whole Cert.KernelIdeal.cc0_scratch0 : Memref Cert.KernelIdeal.sig Kind.scVector Space.vmem Cert.KernelIdeal.S512 EltTy.i32)
local notation "bV" => (Memref.whole Cert.KernelIdeal.cc0_scratch1 : Memref Cert.KernelIdeal.sig Kind.scVector Space.vmem Cert.KernelIdeal.S4x128x128 EltTy.f32)

/-! ## One tile's geometry -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
/-- The worker number of a SparseCore and a tile. -/
abbrev wid (c : Fin 2) (s : Fin 16) : ℕ := 2 * s.val + c.val

/-- The output's chunk `t` of worker `(c, s)`. -/
def oSet (c : Fin 2) (s : Fin 16) (t : Fin 4) : Finset S4x4096x128.Idx :=
  Finset.univ.filter fun x => 32 * (x 0).val + (x 1).val / 128 = 4 * wid c s + t.val
/-- Slot `t` of the row scratch, and the part of the index scratch that fills it. -/
def bSet (t : Fin 4) : Finset S4x128x128.Idx := Finset.univ.filter fun x => (x 0).val = t.val
def sSet (t : Fin 4) : Finset S512.Idx := Finset.univ.filter fun x => (x 0).val / 128 = t.val

/-- A tile's coordinates from its SparseCore and its number on it. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_eta (L : grid0.Coords) : coordsV (L 0) (L 1) = L := by
  funext a; match a with | 0 => rfl | 1 => rfl

theorem off1_at : ∀ (c : Fin (grid0.bound 0)) (s : Fin (grid0.bound 1)),
    k0_off1 (coordsV c s) 0 = wid c s / 8 ∧ k0_off1 (coordsV c s) 1 = wid c s % 8 * 512 := by decide +kernel
theorem off2_at : ∀ (c : Fin (grid0.bound 0)) (s : Fin (grid0.bound 1)) (t : Fin 4),
    k0_off2 (coordsV c s) (BitVec.ofNat 32 (128 * t.val)) 0 = wid c s / 8
      ∧ k0_off2 (coordsV c s) (BitVec.ofNat 32 (128 * t.val)) 1 = wid c s % 8 * 512 + 128 * t.val
      ∧ k0_off2 (coordsV c s) (BitVec.ofNat 32 (128 * t.val)) 2 = 0 := by decide +kernel

theorem off1_zero (L : grid0.Coords) : k0_off1 L 0 = wid (cL L) (jL L) / 8 := by
  have h := (off1_at (L 0) (L 1)).1; rwa [coordsV_eta] at h
theorem off1_one (L : grid0.Coords) : k0_off1 L 1 = wid (cL L) (jL L) % 8 * 512 := by
  have h := (off1_at (L 0) (L 1)).2; rwa [coordsV_eta] at h
theorem off2_zero (L : grid0.Coords) (t : Fin 4) : k0_off2 L (BitVec.ofNat 32 (128 * t.val)) 0 = wid (cL L) (jL L) / 8 := by
  have h := (off2_at (L 0) (L 1) t).1; rwa [coordsV_eta] at h
theorem off2_one (L : grid0.Coords) (t : Fin 4) :
    k0_off2 L (BitVec.ofNat 32 (128 * t.val)) 1 = wid (cL L) (jL L) % 8 * 512 + 128 * t.val := by
  have h := (off2_at (L 0) (L 1) t).2.1; rwa [coordsV_eta] at h
theorem off2_two (L : grid0.Coords) (t : Fin 4) : k0_off2 L (BitVec.ofNat 32 (128 * t.val)) 2 = 0 := by
  have h := (off2_at (L 0) (L 1) t).2.2; rwa [coordsV_eta] at h

/-- The position array's row slice, the four output chunks, the row scratch's slots, the index scratch's parts and
    the whole table, as the task addresses them. -/
abbrev iK (L : grid0.Coords) : Memref sig .scVector .hbm S512 .i32 :=
  ((iV).slice (Rect.unit (s := S4x4096) (k0_off1 L) S1x512.size (k0_off1_inb L)) (fun _ => rfl)).squeeze S512 squeezes_S1x512_S512
abbrev oK (o : Fin 3 → ℕ) (h : ∀ a, o a + S1x128x128.size a ≤ S4x4096x128.size a) : Memref sig .scVector .hbm S128x128 .f32 :=
  ((oV).slice (Rect.unit (s := S4x4096x128) o S1x128x128.size h) (fun _ => rfl)).squeeze S128x128 squeezes_S1x128x128_S128x128
abbrev bK (o : Fin 3 → ℕ) (h : ∀ a, o a + S1x128x128.size a ≤ S4x128x128.size a) : Memref sig .scVector .vmem S128x128 .f32 :=
  ((bV).slice (Rect.unit (s := S4x128x128) o S1x128x128.size h) (fun _ => rfl)).squeeze S128x128 squeezes_S1x128x128_S128x128
abbrev sK (o : Fin 1 → ℕ) (h : ∀ a, o a + S128.size a ≤ S512.size a) : Memref sig .scVector .vmem S128 .i32 :=
  (sV).slice (Rect.unit (s := S512) o S128.size h) (fun _ => rfl)
abbrev xK : Memref sig .scVector .hbm S8192x128 .f32 :=
  (xV).slice (Rect.unit (s := S8192x128) ![0, 0] S8192x128.size inb_S8192x128_S8192x128_0_0) (fun _ => rfl)

theorem set_oK (L : grid0.Coords) (t : Fin 4) (h) : (oK (k0_off2 L (BitVec.ofNat 32 (128 * t.val))) h).view.set = oSet (cL L) (jL L) t := by
  show (((oV).view.slice (Rect.unit (s := S4x4096x128) _ S1x128x128.size h)).reshape S128x128 squeezes_S1x128x128_S128x128.numel_eq).set = _
  rw [View.set_reshape, View.set_slice]
  refine Finset.map_refl.trans ?_
  ext x
  have hx0 : (x 0).val < 4 := (x 0).isLt
  have hx1 : (x 1).val < 4096 := (x 1).isLt
  have hx2 : (x 2).val < 128 := (x 2).isLt
  have hw : 2 * (jL L).val + (cL L).val < 32 := by have := (cL L).isLt; have := (jL L).isLt; omega
  have hw' : wid (cL L) (jL L) < 32 := hw
  have ht := t.isLt
  simp only [Rect.mem_set_unit, oSet, Finset.mem_filter, Finset.mem_univ, _root_.true_and]
  constructor
  · intro H
    have h0 := H 0; have h1 := H 1
    rw [off2_zero] at h0; rw [off2_one] at h1
    change _ ∧ (x 0).val < _ + 1 at h0
    change _ ∧ (x 1).val < _ + 128 at h1
    omega
  · intro H a
    match a with
    | 0 => rw [off2_zero]; show _ ∧ (x 0).val < _ + 1; constructor <;> omega
    | 1 => rw [off2_one]; show _ ∧ (x 1).val < _ + 128; constructor <;> omega
    | 2 => rw [off2_two]; show _ ∧ (x 2).val < _ + 128; constructor <;> omega

theorem set_bK (t : Fin 4) (h) : (bK ![t.val, 0, 0] h).view.set = bSet t := by
  show (((bV).view.slice (Rect.unit (s := S4x128x128) _ S1x128x128.size h)).reshape S128x128 squeezes_S1x128x128_S128x128.numel_eq).set = _
  rw [View.set_reshape, View.set_slice]
  refine Finset.map_refl.trans ?_
  ext x
  have hx1 : (x 1).val < 128 := (x 1).isLt
  have hx2 : (x 2).val < 128 := (x 2).isLt
  simp only [Rect.mem_set_unit, bSet, Finset.mem_filter, Finset.mem_univ, _root_.true_and]
  constructor
  · intro H
    have h0 := H 0
    change t.val ≤ (x 0).val ∧ (x 0).val < t.val + 1 at h0
    omega
  · intro H a
    match a with
    | 0 => show t.val ≤ (x 0).val ∧ (x 0).val < t.val + 1; omega
    | 1 => show 0 ≤ (x 1).val ∧ (x 1).val < 0 + 128; omega
    | 2 => show 0 ≤ (x 2).val ∧ (x 2).val < 0 + 128; omega

theorem set_sK (t : Fin 4) (h) : (sK ![128 * t.val] h).view.set = sSet t := by
  show ((sV).view.slice (Rect.unit (s := S512) _ S128.size h)).set = _
  rw [View.set_slice]
  refine Finset.map_refl.trans ?_
  ext x
  simp only [Rect.mem_set_unit, sSet, Finset.mem_filter, Finset.mem_univ, _root_.true_and]
  constructor
  · intro H
    have h0 := H 0
    change 128 * t.val ≤ (x 0).val ∧ (x 0).val < 128 * t.val + 128 at h0
    omega
  · intro H a
    match a with
    | 0 => show 128 * t.val ≤ (x 0).val ∧ (x 0).val < 128 * t.val + 128; omega

theorem set_xK : (xK).view.set = Finset.univ := by
  show ((xV).view.slice (Rect.unit (s := S8192x128) _ S8192x128.size _)).set = _
  rw [View.set_slice]
  refine Finset.map_refl.trans ?_
  ext x
  have hx0 : (x 0).val < 8192 := (x 0).isLt
  have hx1 : (x 1).val < 128 := (x 1).isLt
  simp only [Rect.mem_set_unit, Finset.mem_univ, iff_true]
  intro a
  match a with
  | 0 => show 0 ≤ (x 0).val ∧ (x 0).val < 0 + 8192; omega
  | 1 => show 0 ≤ (x 1).val ∧ (x 1).val < 0 + 128; omega

/-! ## The pieces are disjoint and cover -/

theorem bSet_disjoint : ∀ i ∈ (Finset.univ : Finset (Fin 4)), ∀ j ∈ (Finset.univ : Finset (Fin 4)), i ≠ j → Disjoint (bSet i) (bSet j) := by
  intro i _ j _ h
  refine Finset.disjoint_left.mpr fun x hx hy => h (Fin.ext ?_)
  rw [bSet, Finset.mem_filter] at hx hy; omega
theorem bSet_cover : (Finset.univ : Finset (Fin 4)).biUnion bSet = Finset.univ := by
  ext x; simp only [Finset.mem_biUnion, Finset.mem_univ, _root_.true_and, iff_true]
  exact ⟨⟨(x 0).val, (x 0).isLt⟩, by simp [bSet]⟩
theorem sSet_disjoint : ∀ i ∈ (Finset.univ : Finset (Fin 4)), ∀ j ∈ (Finset.univ : Finset (Fin 4)), i ≠ j → Disjoint (sSet i) (sSet j) := by
  intro i _ j _ h
  refine Finset.disjoint_left.mpr fun x hx hy => h (Fin.ext ?_)
  rw [sSet, Finset.mem_filter] at hx hy; omega
theorem sSet_cover : (Finset.univ : Finset (Fin 4)).biUnion sSet = Finset.univ := by
  ext x; simp only [Finset.mem_biUnion, Finset.mem_univ, _root_.true_and, iff_true]
  have hx : (x 0).val < 512 := (x 0).isLt
  exact ⟨⟨(x 0).val / 128, by omega⟩, by simp [sSet]⟩

/-- The workers' chunks, by SparseCore, tile and chunk. -/
abbrev oSet' (p : (Fin 2 × Fin 16) × Fin 4) : Finset S4x4096x128.Idx := oSet p.1.1 p.1.2 p.2
theorem oSet_disjoint : ∀ i ∈ (Finset.univ : Finset ((Fin 2 × Fin 16) × Fin 4)), ∀ j ∈ (Finset.univ : Finset ((Fin 2 × Fin 16) × Fin 4)),
    i ≠ j → Disjoint (oSet' i) (oSet' j) := by
  rintro ⟨⟨c, s⟩, t⟩ _ ⟨⟨c', s'⟩, t'⟩ _ h
  refine Finset.disjoint_left.mpr fun x hx hy => h ?_
  simp only [oSet', oSet, wid, Finset.mem_filter, Finset.mem_univ, _root_.true_and] at hx hy
  have := c.isLt; have := c'.isLt; have := t.isLt; have := t'.isLt
  have e1 : c = c' := Fin.ext (by omega)
  have e2 : s = s' := Fin.ext (by omega)
  have e3 : t = t' := Fin.ext (by omega)
  subst e1; subst e2; subst e3; rfl
theorem oSet_cover : (Finset.univ : Finset ((Fin 2 × Fin 16) × Fin 4)).biUnion oSet' = Finset.univ := by
  ext x; simp only [Finset.mem_biUnion, Finset.mem_univ, _root_.true_and, iff_true]
  have hx0 : (x 0).val < 4 := (x 0).isLt
  have hx1 : (x 1).val < 4096 := (x 1).isLt
  refine ⟨((⟨(32 * (x 0).val + (x 1).val / 128) / 4 % 2, by omega⟩, ⟨(32 * (x 0).val + (x 1).val / 128) / 8, by omega⟩),
    ⟨(32 * (x 0).val + (x 1).val / 128) % 4, by omega⟩), ?_⟩
  simp only [oSet', oSet, wid, Finset.mem_filter, Finset.mem_univ, _root_.true_and]
  omega

/-! ## Shares of the positions and of the table: the full share halved five times, one leaf a tile -/

/-- The leaf of tile `(c, s)`. -/
abbrev shq (c : Fin 2) (s : Fin 16) : PosShare TreeShare := ShareLeaves.leaf 5 fullShare ((finProdFinEquiv (m := 2) (n := 16) (c, s)).cast rfl)

/-! ## What is computed -/

/-- The gathered cosines: place `(b, p, x)` holds entry `(position (b, p), x)` of the table (the table's entry at the
    position's remainder by its height; in range, the position itself). -/
def cosOut (pos : S4x4096.Idx → BitVec 32) (tab : S8192x128.Idx → Elt F .f32) : S4x4096x128.Idx → Elt F .f32 :=
  fun x => tab (ValueIdx.ix2 (⟨(pos (ValueIdx.ix2 (x 0) (x 1))).toNat % 8192, Nat.mod_lt _ (by decide)⟩ : Fin 8192) (x 2))

/-- What the proof asks of the launch memory: every position is a row of the tables. -/
def PreOK : Prop := ∀ (d : Dev nD) (j : S4x4096.Idx), (m (iLoc d) j : BitVec 32).toNat < 8192

end Cert.Proof.Run

end
-- ==== Proof.Chunk.lean ====
/-
  The value of one chunk of the output: what a tile's gather brings is the named rows of the table.
-/
module

public import proofs.«01_k».proof.Proof.Setup

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_arg1_scv : Memref Cert.KernelIdeal.sig Kind.scVector Space.hbm Cert.KernelIdeal.S4x4096 EltTy.i32)
local notation "xV" => (Memref.whole Cert.KernelIdeal.main_arg2_scv : Memref Cert.KernelIdeal.sig Kind.scVector Space.hbm Cert.KernelIdeal.S8192x128 EltTy.f32)
local notation "oV" => (Memref.whole Cert.KernelIdeal.main_v13_scv : Memref Cert.KernelIdeal.sig Kind.scVector Space.hbm Cert.KernelIdeal.S4x4096x128 EltTy.f32)
local notation "sV" => (Memref.whole Cert.KernelIdeal.cc0_scratch0 : Memref Cert.KernelIdeal.sig Kind.scVector Space.vmem Cert.KernelIdeal.S512 EltTy.i32)
local notation "bV" => (Memref.whole Cert.KernelIdeal.cc0_scratch1 : Memref Cert.KernelIdeal.sig Kind.scVector Space.vmem Cert.KernelIdeal.S4x128x128 EltTy.f32)

variable (m : (ℓ : Loc nD τ sig) → Buf (Elt F) ℓ) (ρ : Dev nD → PrngReg)

section Chunk

variable (d : Dev nD) (L : grid0.Coords)

/-- The output the tiles leave between them. -/
abbrev oVal (d : Dev nD) : Buf (Elt F) (oLoc d) := cosOut (F := F) (m (iLoc d)) (m (xLoc d))

/-- The words of the index scratch after the position fetch: the tile's 512 positions. -/
abbrev lst : S512.Idx → Elt F .i32 := (iK L).view.read (Elt F) (m (iLoc d))

theorem lst_apply (j : S512.Idx) : lst m d L j = m (iLoc d) ((iK L).view.emb j) := (View.read_apply _ _).trans (cast_eq _ _)

/-- A squeezed chunk's place `y` lies at the chunk's offset and `y`. -/
theorem emb_oK (o : Fin 3 → ℕ) (h) (y : S128x128.Idx) :
    ((oK o h).view.emb y 0).val = o 0 ∧ ((oK o h).view.emb y 1).val = o 1 + (y 0).val ∧ ((oK o h).view.emb y 2).val = o 2 + (y 1).val := by
  have e : (oK o h).view.emb y
      = (Rect.unit (s := S4x4096x128) o S1x128x128.size h).emb (Shape.reshapeEquiv squeezes_S1x128x128_S128x128.numel_eq y) := rfl
  have e2 : Shape.reshapeEquiv squeezes_S1x128x128_S128x128.numel_eq y = Fin.cons (⟨0, Nat.one_pos⟩ : Fin 1) y :=
    Shape.reshapeEquiv_cons_one _ _
  rw [e, e2]
  refine ⟨?_, ?_, ?_⟩
  · show o 0 + 1 * 0 = _; omega
  · show o 1 + 1 * (y 0).val = _; omega
  · show o 2 + 1 * (y 1).val = _; omega

/-- Position `j` of the tile lies in the tile's row, at the tile's column and `j`. -/
theorem emb_iK (j : S512.Idx) :
    ((iK L).view.emb j 0).val = k0_off1 L 0 ∧ ((iK L).view.emb j 1).val = k0_off1 L 1 + (j 0).val := by
  have e : (iK L).view.emb j
      = (Rect.unit (s := S4x4096) (k0_off1 L) S1x512.size (k0_off1_inb L)).emb (Shape.reshapeEquiv squeezes_S1x512_S512.numel_eq j) := rfl
  have e2 : Shape.reshapeEquiv squeezes_S1x512_S512.numel_eq j = Fin.cons (⟨0, Nat.one_pos⟩ : Fin 1) j :=
    Shape.reshapeEquiv_cons_one _ _
  rw [e, e2]
  refine ⟨?_, ?_⟩
  · show k0_off1 L 0 + 1 * 0 = _; omega
  · show k0_off1 L 1 + 1 * (j 0).val = _; omega

theorem emb_sK (o : Fin 1 → ℕ) (h) (j : S128.Idx) : ((sK o h).view.emb j 0).val = o 0 + (j 0).val := by
  show o 0 + 1 * (j 0).val = _; omega

theorem emb_xK (x : S8192x128.Idx) : (xK).view.emb x = x := by
  funext a
  match a with
  | 0 => apply Fin.ext; show 0 + 1 * (x 0).val = _; omega
  | 1 => apply Fin.ext; show 0 + 1 * (x 1).val = _; omega

/-- Entry `k` of a rank-one list in row-major order is entry `k`. -/
theorem symm_S128 (k : Fin S128.numel) : ((S128.rowMajor.symm k) 0).val = k.val := by
  have h := Shape.rowMajor_val_one (S128.rowMajor.symm k)
  rw [← h]; exact congrArg Fin.val (Equiv.apply_symm_apply S128.rowMajor k)

/-- WHAT THE GATHER BRINGS: at place `y` of chunk `t`, the output's own entry there. -/
theorem gather_val (hpre : PreOK m) (t : Fin 4) (o : Fin 1 → ℕ) (h) (hot : o 0 = 128 * t.val) (ho) (hn : S128.numel = S128x128.size gathers_S8192x128_S128x128.axis')
    (hin : ∀ x, ((sK o h).view.read (Elt F) (lst m d L) x : BitVec 32).toNat < S8192x128.size gathers_S8192x128_S128x128.axis)
    (y : S128x128.Idx) :
    SparseCore.gatherPayload (F := F) gathers_S8192x128_S128x128 ((xK).view.read (Elt F) (m (xLoc d)))
        (SparseCore.rows ((sK o h).view.read (Elt F) (lst m d L)) hn hin) y
      = oVal m d ((oK (k0_off2 L (BitVec.ofNat 32 (128 * t.val))) ho).view.emb y) := by
  obtain ⟨x0, x1, x2⟩ := emb_oK (k0_off2 L (BitVec.ofNat 32 (128 * t.val))) ho y
  rw [off2_zero] at x0; rw [off2_one] at x1; rw [off2_two] at x2
  generalize hx : (oK (k0_off2 L (BitVec.ofNat 32 (128 * t.val))) ho).view.emb y = x at x0 x1 x2
  unfold SparseCore.gatherPayload
  rw [show ∀ z, (xK).view.read (Elt F) (m (xLoc d)) z = m (xLoc d) ((xK).view.emb z) from fun z => (View.read_apply _ _).trans (cast_eq _ _), emb_xK]
  show _ = m (xLoc d) (ValueIdx.ix2 _ _)
  refine congrArg (m (xLoc d)) ?_
  funext a
  match a with
  | 0 =>
    apply Fin.ext
    refine (congrArg Fin.val (Shape.Gathers.idx_axis gathers_S8192x128_S128x128 _ y)).trans ?_
    unfold SparseCore.rows
    show ((sK o h).view.read (Elt F) (lst m d L) _ : BitVec 32).toNat = (m (iLoc d) (ValueIdx.ix2 (x 0) (x 1)) : BitVec 32).toNat % 8192
    rw [Nat.mod_eq_of_lt (hpre d _)]
    rw [show ∀ z, (sK o h).view.read (Elt F) (lst m d L) z = lst m d L ((sK o h).view.emb z) from fun z => (View.read_apply _ _).trans (cast_eq _ _),
      lst_apply]
    refine congrArg (fun z => (m (iLoc d) z : BitVec 32).toNat) ?_
    funext b
    have hj := emb_sK o h (S128.rowMajor.symm ((y gathers_S8192x128_S128x128.axis').cast hn.symm))
    rw [symm_S128, hot] at hj
    obtain ⟨i0, i1⟩ := emb_iK L ((sK o h).view.emb (S128.rowMajor.symm ((y gathers_S8192x128_S128x128.axis').cast hn.symm)))
    rw [off1_zero] at i0; rw [off1_one, hj] at i1
    match b with
    | 0 => exact Fin.ext (i0.trans x0.symm)
    | 1 =>
      refine Fin.ext (i1.trans (Eq.trans ?_ x1.symm))
      show _ + (128 * t.val + (y 0).val) = _
      omega
  | 1 =>
    apply Fin.ext
    refine (Shape.Gathers.idx_of_ne gathers_S8192x128_S128x128 _ y 1 (by decide)).trans ?_
    show (y 1).val = (x 2).val
    omega

/-- A chunk written whole by a payload that is the output there holds the output. -/
theorem chunk_val (t : Fin 4) (ho) (f : Buf (Elt F) (oLoc d)) (w : S128x128.Idx → Elt F .f32)
    (hw : ∀ y, w y = oVal m d ((oK (k0_off2 L (BitVec.ofNat 32 (128 * t.val))) ho).view.emb y)) :
    ((oK (k0_off2 L (BitVec.ofNat 32 (128 * t.val))) ho).view.loc (V d (cV L) (jV L))
        ↦[(oK (k0_off2 L (BitVec.ofNat 32 (128 * t.val))) ho).view.set]{fullShare}
          (oK (k0_off2 L (BitVec.ofNat 32 (128 * t.val))) ho).view.writes (Elt F) f [⟨Rect.whole S128x128, w⟩] : sProp 𝕄)
      = oLoc d ↦[oSet (cL L) (jL L) t]{fullShare} oVal m d := by
  rw [← set_oK L t ho]
  refine pointsTo_congr fun i hi => ?_
  obtain ⟨y, -, rfl⟩ := Finset.mem_map.mp hi
  rw [← View.write_univ_eq_writes_whole, View.writes_nil, View.write_emb_of_mem _ _ (Finset.mem_univ _), ← hw y]
  exact cast_eq _ _

end Chunk

end Cert.Proof.Run

end
-- ==== Proof.Tile.lean ====
/-
  The task of one tile, run once for both readings of the program, with its values.
-/
module

public import proofs.«01_k».proof.Proof.Chunk

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_arg1_scv : Memref Cert.KernelIdeal.sig Kind.scVector Space.hbm Cert.KernelIdeal.S4x4096 EltTy.i32)
local notation "xV" => (Memref.whole Cert.KernelIdeal.main_arg2_scv : Memref Cert.KernelIdeal.sig Kind.scVector Space.hbm Cert.KernelIdeal.S8192x128 EltTy.f32)
local notation "oV" => (Memref.whole Cert.KernelIdeal.main_v13_scv : Memref Cert.KernelIdeal.sig Kind.scVector Space.hbm Cert.KernelIdeal.S4x4096x128 EltTy.f32)
local notation "sV" => (Memref.whole Cert.KernelIdeal.cc0_scratch0 : Memref Cert.KernelIdeal.sig Kind.scVector Space.vmem Cert.KernelIdeal.S512 EltTy.i32)
local notation "bV" => (Memref.whole Cert.KernelIdeal.cc0_scratch1 : Memref Cert.KernelIdeal.sig Kind.scVector Space.vmem Cert.KernelIdeal.S4x128x128 EltTy.f32)

variable (m : (ℓ : Loc nD τ sig) → Buf (Elt F) ℓ) (ρ : Dev nD → PrngReg)

/-- Four things at once, one by one. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

/-! ## What a tile is handed and hands back -/

abbrev iSh (d : Dev nD) (c : Fin 2) (s : Fin 16) : sProp 𝕄 := iLoc d ↦{shq c s} m (iLoc d)
abbrev xSh (d : Dev nD) (c : Fin 2) (s : Fin 16) : sProp 𝕄 := xLoc d ↦{shq c s} m (xLoc d)
abbrev oCh (d : Dev nD) (c : Fin 2) (s : Fin 16) (f : Buf (Elt F) (oLoc d)) : sProp 𝕄 :=
  bigSep Finset.univ fun t : Fin 4 => oLoc d ↦[oSet c s t]{fullShare} f
/-- A tile's shares of the positions and of the table, and its four chunks of the output at contents `f`. -/
abbrev tP (d : Dev nD) (c : Fin 2) (s : Fin 16) (f : Buf (Elt F) (oLoc d)) : sProp 𝕄 :=
  iprop(iSh m d c s ∗ xSh m d c s ∗ oCh d c s f)
section Tile

variable (d : Dev nD) (L : grid0.Coords)

/-- The tile's own nine semaphores: the four gathers', the four write-outs', the position fetch's. -/
def tSem (k : Fin 9) : GSem nD τ sig := (V d (cV L) (jV L), .dma (k.castLE (by decide)))

theorem tSem_inj : Function.Injective (tSem d L) := by
  intro a b h
  have h2 := congrArg Prod.snd h
  simp only [tSem, SemLoc.dma.injEq] at h2
  exact Fin.ext (by simpa using congrArg Fin.val h2)

theorem tSem_scoped : ∀ k : Fin 9, (SemLoc.dma (k.castLE (by decide)) : SemLoc sig).isScoped .scVector = true := by decide

abbrev restSems : sProp 𝕄 := bigSep (ownCells (V d (cV L) (jV L)) \ Finset.univ.map ⟨tSem d L, tSem_inj d L⟩) fun g => semVal g 0

/-- Nine things at once, one by one. -/
theorem bigSep_nine (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) := by
  rw [show (Finset.univ : Finset (Fin 9)) = {0, 1, 2, 3, 4, 5, 6, 7, 8} by decide]
  repeat rw [SparseCore.bigSep_insert' (by decide)]
  rw [bigSep_singleton]

/-- The semaphore of the gather, and of the write-out, at place `o` of its array. -/
abbrev gS (o : Fin 1 → ℕ) (h : ∀ a, o a + S1.size a ≤ S4.size a) : SemLoc sig :=
  .dma ((cc0_scratch2.slice (Rect.unit (s := S4) o S1.size h)).squeeze S_ squeezes_S1_S_).sem
abbrev wS (o : Fin 1 → ℕ) (h : ∀ a, o a + S1.size a ≤ S4.size a) : SemLoc sig :=
  .dma ((cc0_scratch3.slice (Rect.unit (s := S4) o S1.size h)).squeeze S_ squeezes_S1_S_).sem

theorem ownSems0_V :
    (ownSems0 (V d (cV L) (jV L)) : sProp 𝕄)
      = iprop((semVal (V d (cV L) (jV L), gS ![0] inb_S4_S1_0) 0 ∗ semVal (V d (cV L) (jV L), gS ![1] inb_S4_S1_1) 0
          ∗ semVal (V d (cV L) (jV L), gS ![2] inb_S4_S1_2) 0 ∗ semVal (V d (cV L) (jV L), gS ![3] inb_S4_S1_3) 0
          ∗ semVal (V d (cV L) (jV L), wS ![0] inb_S4_S1_0) 0 ∗ semVal (V d (cV L) (jV L), wS ![1] inb_S4_S1_1) 0
          ∗ semVal (V d (cV L) (jV L), wS ![2] inb_S4_S1_2) 0 ∗ semVal (V d (cV L) (jV L), wS ![3] inb_S4_S1_3) 0
          ∗ semVal (V d (cV L) (jV L), SemLoc.dma cc0_scoped0.sem) 0) ∗ restSems d L) := by
  unfold SparseCore.Cfg.ownSems0
  rw [SparseCore.bigSep_sdiff_split' (t := Finset.univ.map ⟨tSem d L, tSem_inj d L⟩), bigSep_map, bigSep_nine]
  · rfl
  · intro g hg
    obtain ⟨k, -, rfl⟩ := Finset.mem_map.mp hg
    exact mem_ownCells.mpr ⟨rfl, tSem_scoped k⟩

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The pieces as the task addresses them -/

theorem pts_oK (t : Fin 4) (h) (f : Buf (Elt F) (oLoc d)) :
    ((oK (k0_off2 L (BitVec.ofNat 32 (128 * t.val))) h).view.loc (V d (cV L) (jV L))
        ↦[(oK (k0_off2 L (BitVec.ofNat 32 (128 * t.val))) h).view.set]{fullShare} f : sProp 𝕄)
      = oLoc d ↦[oSet (cL L) (jL L) t]{fullShare} f := by
  rw [set_oK]
theorem pts_bK (t : Fin 4) (h) (f : Buf (Elt F) ((V d (cV L) (jV L)).loc cc0_scratch1)) :
    ((bK ![t.val, 0, 0] h).view.loc (V d (cV L) (jV L)) ↦[(bK ![t.val, 0, 0] h).view.set]{fullShare} f : sProp 𝕄)
      = (V d (cV L) (jV L)).loc cc0_scratch1 ↦[bSet t]{fullShare} f := by
  rw [set_bK]
theorem pts_sK (t : Fin 4) (h) (f : Buf (Elt F) ((V d (cV L) (jV L)).loc cc0_scratch0)) :
    ((sK ![128 * t.val] h).view.loc (V d (cV L) (jV L)) ↦[(sK ![128 * t.val] h).view.set]{fullShare} f : sProp 𝕄)
      = (V d (cV L) (jV L)).loc cc0_scratch0 ↦[sSet t]{fullShare} f := by
  rw [set_sK]
theorem pts_xK (q : PosShare TreeShare) (f : Buf (Elt F) (xLoc d)) :
    ((xK).view.loc (V d (cV L) (jV L)) ↦[(xK).view.set]{q} f : sProp 𝕄) = xLoc d ↦{q} f := by
  rw [set_xK]

/-- The row scratch is its four slots; the index scratch its four parts. -/
theorem bufs_slots (f : Buf (Elt F) ((V d (cV L) (jV L)).loc cc0_scratch1)) :
    ((V d (cV L) (jV L)).loc cc0_scratch1 ↦{fullShare} f : sProp 𝕄)
      = bigSep Finset.univ fun t : Fin 4 => (V d (cV L) (jV L)).loc cc0_scratch1 ↦[bSet t]{fullShare} f := by
  rw [← pointsTo_biUnion Finset.univ (ℓ := (V d (cV L) (jV L)).loc cc0_scratch1) bSet bSet_disjoint, bSet_cover]; try rfl
theorem idx_parts (f : Buf (Elt F) ((V d (cV L) (jV L)).loc cc0_scratch0)) :
    ((V d (cV L) (jV L)).loc cc0_scratch0 ↦{fullShare} f : sProp 𝕄)
      = bigSep Finset.univ fun t : Fin 4 => (V d (cV L) (jV L)).loc cc0_scratch0 ↦[sSet t]{fullShare} f := by
  rw [← pointsTo_biUnion Finset.univ (ℓ := (V d (cV L) (jV L)).loc cc0_scratch0) sSet sSet_disjoint, sSet_cover]; try rfl

/-- The four slots, each at some contents, are the row scratch at some contents. -/
theorem slots_join :
    iprop((∃ f, (V d (cV L) (jV L)).loc cc0_scratch1 ↦[bSet 0]{fullShare} f) ∗ (∃ f, (V d (cV L) (jV L)).loc cc0_scratch1 ↦[bSet 1]{fullShare} f)
        ∗ (∃ f, (V d (cV L) (jV L)).loc cc0_scratch1 ↦[bSet 2]{fullShare} f) ∗ (∃ f, (V d (cV L) (jV L)).loc cc0_scratch1 ↦[bSet 3]{fullShare} f))
      ⊢ (iprop(∃ f, (V d (cV L) (jV L)).loc cc0_scratch1 ↦{fullShare} f) : sProp 𝕄) := by
  iintro ⟨⟨%f0, H0⟩, ⟨%f1, H1⟩, ⟨%f2, H2⟩, ⟨%f3, H3⟩⟩
  ihave H := (BIBase.Entails.trans (Entails.of_eq (bigSep_four (F := F) fun t => (V d (cV L) (jV L)).loc cc0_scratch1 ↦[bSet t]{fullShare} (![f0, f1, f2, f3] t)).symm)
    (pointsTo_biUnion_join Finset.univ (ℓ := (V d (cV L) (jV L)).loc cc0_scratch1) bSet (fun t => ![f0, f1, f2, f3] t) f0 bSet_disjoint)) $$ [H0 H1 H2 H3]
  · isplitl [H0]; · iexact H0
    isplitl [H1]; · iexact H1
    isplitl [H2]; · iexact H2
    iexact H3
  icases H with ⟨%g, -, H⟩
  iexists g
  rw [bSet_cover]
  iexact H

/-- A wait at the level-less index adds nothing that is asked about. -/
theorem forall_insert_none {W : Waits sig (HIx 1)} {s : SemLoc sig} {W₀ : Waits sig (HIx 1)}
    (h : ∀ p ∈ W₀, p ∈ W ∨ p.2 = none) : ∀ p ∈ insert (s, (default : HIx 1)) W₀, p ∈ W ∨ p.2 = none := by
  intro p hp
  rcases Finset.mem_insert.mp hp with rfl | hp
  · exact .inr rfl
  · exact h p hp

/-- What a slot is read as after a write of the whole of it is what was written. -/
theorem dma_val (v : View sig .scVector .vmem S128x128 .f32) (f : v.ty.Contents (Elt F)) (g w : S128x128.Idx → Elt F .f32) (h : ∀ y, g y = w y) :
    ∀ y, v.read (Elt F) (v.writes (Elt F) f [⟨Rect.whole S128x128, g⟩]) y = w y := by
  intro y
  rw [← View.write_univ_eq_writes_whole, View.writes_nil, View.read_write_univ, h]

variable [FloatOps F]

/-- Each of the four gathers' words is a row of the table. -/
theorem inb_of_pre (hpre : PreOK m) (o : Fin 1 → ℕ) (h) :
    ∀ x, ((sK o h).view.read (Elt F) (lst m d L) x : BitVec 32).toNat < S8192x128.size gathers_S8192x128_S128x128.axis := by
  intro x
  rw [show (sK o h).view.read (Elt F) (lst m d L) x = lst m d L ((sK o h).view.emb x) from (View.read_apply _ _).trans (cast_eq _ _)]
  rw [show ∀ j, lst m d L j = m (iLoc d) ((iK L).view.emb j) from fun j => (View.read_apply _ _).trans (cast_eq _ _)]
  exact hpre d _

set_option maxHeartbeats 4000000 in
/-- The task on vector subcore `(L 0, L 1)` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ tP m d (cL L) (jL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather L xV (Memref.isWhole_whole _) iV (Memref.isWhole_whole _) oV (Memref.isWhole_whole _)
            sV (Memref.isWhole_whole _) bV (Memref.isWhole_whole _) cc0_scratch2 cc0_scratch3 cc0_scoped0)
          fun _ => iprop(tP m d (cL L) (jL L) (oVal m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_eq_skeleton]; unfold cc0_gather_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold tP oCh
  rw [(K (F := F)).scopedBufs_V hF d (cV L) (jV L), SparseCore.Cfg.scopedSems0_V (Val := Elt F) d (cV L) (jV L), ownSems0_V, ownBufs_V,
    bigSep_four, bigSep_four]
  iintro ⟨#Hlv, -, ⟨Hi, Hx, ⟨Ho0, Ho1, Ho2, Ho3⟩⟩, ⟨⟨%fs, Hs⟩, ⟨%fb, Hb⟩, Hbufs⟩,
    ⟨⟨Hg0, Hg1, Hg2, Hg3, Hw0, Hw1, Hw2, Hw3, Hc⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (iLoc d ↦{shq (cL L) (jL L)} m (iLoc d) : sProp 𝕄)
    = (iV).view.loc (V d (cV L) (jV L)) ↦{shq (cL L) (jL L)} m (iLoc d) from rfl)) $$ Hi
  ihave Ho0' := (Entails.of_eq (show (oLoc d ↦[oSet (cL L) (jL L) 0]{fullShare} m (oLoc d) : sProp 𝕄)
    = (oK (k0_off2 L 0#32) (k0_off2_inb L 0)).view.loc (V d (cV L) (jV L)) ↦[(oK (k0_off2 L 0#32) (k0_off2_inb L 0)).view.set]{fullShare} m (oLoc d)
      from (pts_oK d L 0 (k0_off2_inb L 0) _).symm)) $$ Ho0
  ihave Ho1' := (Entails.of_eq (show (oLoc d ↦[oSet (cL L) (jL L) 1]{fullShare} m (oLoc d) : sProp 𝕄)
    = (oK (k0_off2 L 128#32) (k0_off2_inb L 1)).view.loc (V d (cV L) (jV L)) ↦[(oK (k0_off2 L 128#32) (k0_off2_inb L 1)).view.set]{fullShare} m (oLoc d)
      from (pts_oK d L 1 (k0_off2_inb L 1) _).symm)) $$ Ho1
  ihave Ho2' := (Entails.of_eq (show (oLoc d ↦[oSet (cL L) (jL L) 2]{fullShare} m (oLoc d) : sProp 𝕄)
    = (oK (k0_off2 L 256#32) (k0_off2_inb L 2)).view.loc (V d (cV L) (jV L)) ↦[(oK (k0_off2 L 256#32) (k0_off2_inb L 2)).view.set]{fullShare} m (oLoc d)
      from (pts_oK d L 2 (k0_off2_inb L 2) _).symm)) $$ Ho2
  ihave Ho3' := (Entails.of_eq (show (oLoc d ↦[oSet (cL L) (jL L) 3]{fullShare} m (oLoc d) : sProp 𝕄)
    = (oK (k0_off2 L 384#32) (k0_off2_inb L 3)).view.loc (V d (cV L) (jV L)) ↦[(oK (k0_off2 L 384#32) (k0_off2_inb L 3)).view.set]{fullShare} m (oLoc d)
      from (pts_oK d L 3 (k0_off2_inb L 3) _).symm)) $$ Ho3
  ihave Hs' := (Entails.of_eq (show ((V d (cV L) (jV L)).loc cc0_scratch0 ↦{fullShare} fs : sProp 𝕄)
    = (sV).view.loc (V d (cV L) (jV L)) ↦{fullShare} fs from rfl)) $$ Hs
  ihave Hb' := (Entails.of_eq ((bufs_slots d L fb).trans (bigSep_four _))) $$ Hb
  icases Hb' with ⟨Hb0, Hb1, Hb2, Hb3⟩
  ihave Hb0' := (Entails.of_eq (show ((V d (cV L) (jV L)).loc cc0_scratch1 ↦[bSet 0]{fullShare} fb : sProp 𝕄)
    = (bK ![0, 0, 0] inb_S4x128x128_S1x128x128_0_0_0).view.loc (V d (cV L) (jV L)) ↦[(bK ![0, 0, 0] inb_S4x128x128_S1x128x128_0_0_0).view.set]{fullShare} fb
      from (pts_bK d L 0 inb_S4x128x128_S1x128x128_0_0_0 _).symm)) $$ Hb0
  ihave Hb1' := (Entails.of_eq (show ((V d (cV L) (jV L)).loc cc0_scratch1 ↦[bSet 1]{fullShare} fb : sProp 𝕄)
    = (bK ![1, 0, 0] inb_S4x128x128_S1x128x128_1_0_0).view.loc (V d (cV L) (jV L)) ↦[(bK ![1, 0, 0] inb_S4x128x128_S1x128x128_1_0_0).view.set]{fullShare} fb
      from (pts_bK d L 1 inb_S4x128x128_S1x128x128_1_0_0 _).symm)) $$ Hb1
  ihave Hb2' := (Entails.of_eq (show ((V d (cV L) (jV L)).loc cc0_scratch1 ↦[bSet 2]{fullShare} fb : sProp 𝕄)
    = (bK ![2, 0, 0] inb_S4x128x128_S1x128x128_2_0_0).view.loc (V d (cV L) (jV L)) ↦[(bK ![2, 0, 0] inb_S4x128x128_S1x128x128_2_0_0).view.set]{fullShare} fb
      from (pts_bK d L 2 inb_S4x128x128_S1x128x128_2_0_0 _).symm)) $$ Hb2
  ihave Hb3' := (Entails.of_eq (show ((V d (cV L) (jV L)).loc cc0_scratch1 ↦[bSet 3]{fullShare} fb : sProp 𝕄)
    = (bK ![3, 0, 0] inb_S4x128x128_S1x128x128_3_0_0).view.loc (V d (cV L) (jV L)) ↦[(bK ![3, 0, 0] inb_S4x128x128_S1x128x128_3_0_0).view.set]{fullShare} fb
      from (pts_bK d L 3 inb_S4x128x128_S1x128x128_3_0_0 _).symm)) $$ Hb3
  ihave Hx' := (Entails.of_eq ((ShareLeaves.pointsTo_leaves Finset.univ (m (xLoc d)) 2 (shq (cL L) (jL L))).trans (bigSep_four _))) $$ Hx
  icases Hx' with ⟨Hx0, Hx1, Hx2, Hx3⟩
  ihave Hx0' := (Entails.of_eq (show (xLoc d ↦{ShareLeaves.leaf 2 (shq (cL L) (jL L)) 0} m (xLoc d) : sProp 𝕄)
    = (xV).view.loc (V d (cV L) (jV L)) ↦{ShareLeaves.leaf 2 (shq (cL L) (jL L)) 0} m (xLoc d) from rfl)) $$ Hx0
  ihave Hx1' := (Entails.of_eq (show (xLoc d ↦{ShareLeaves.leaf 2 (shq (cL L) (jL L)) 1} m (xLoc d) : sProp 𝕄)
    = (xV).view.loc (V d (cV L) (jV L)) ↦{ShareLeaves.leaf 2 (shq (cL L) (jL L)) 1} m (xLoc d) from rfl)) $$ Hx1
  ihave Hx2' := (Entails.of_eq (show (xLoc d ↦{ShareLeaves.leaf 2 (shq (cL L) (jL L)) 2} m (xLoc d) : sProp 𝕄)
    = (xV).view.loc (V d (cV L) (jV L)) ↦{ShareLeaves.leaf 2 (shq (cL L) (jL L)) 2} m (xLoc d) from rfl)) $$ Hx2
  ihave Hx3' := (Entails.of_eq (show (xLoc d ↦{ShareLeaves.leaf 2 (shq (cL L) (jL L)) 3} m (xLoc d) : sProp 𝕄)
    = (xV).view.loc (V d (cV L) (jV L)) ↦{ShareLeaves.leaf 2 (shq (cL L) (jL L)) 3} m (xLoc d) from rfl)) $$ Hx3
  sl_exec
  ihave Hs2 := (Entails.of_eq (show ((sV).view.loc (V d (cV L) (jV L)) ↦{fullShare} View.write (Elt F) (sV).view fs (tile_body.sl.dma0 m d L) Finset.univ : sProp 𝕄)
    = (V d (cV L) (jV L)).loc cc0_scratch0 ↦{fullShare} lst m d L by rw [View.write_whole_univ]; rfl)) $$ Hs'
  ihave Hs3 := (Entails.of_eq ((idx_parts d L (lst m d L)).trans (bigSep_four _))) $$ Hs2
  icases Hs3 with ⟨Hs0, Hs1, Hs2, Hs3⟩
  ihave Hs0' := (Entails.of_eq (show ((V d (cV L) (jV L)).loc cc0_scratch0 ↦[sSet 0]{fullShare} lst m d L : sProp 𝕄)
    = (sK ![0] inb_S512_S128_0).view.loc (V d (cV L) (jV L)) ↦[(sK ![0] inb_S512_S128_0).view.set]{fullShare} lst m d L
      from (pts_sK d L 0 inb_S512_S128_0 _).symm)) $$ Hs0
  have hin0 := inb_of_pre m d L hpre ![0] inb_S512_S128_0
  ihave Hs1' := (Entails.of_eq (show ((V d (cV L) (jV L)).loc cc0_scratch0 ↦[sSet 1]{fullShare} lst m d L : sProp 𝕄)
    = (sK ![128] inb_S512_S128_128).view.loc (V d (cV L) (jV L)) ↦[(sK ![128] inb_S512_S128_128).view.set]{fullShare} lst m d L
      from (pts_sK d L 1 inb_S512_S128_128 _).symm)) $$ Hs1
  have hin1 := inb_of_pre m d L hpre ![128] inb_S512_S128_128
  ihave Hs2' := (Entails.of_eq (show ((V d (cV L) (jV L)).loc cc0_scratch0 ↦[sSet 2]{fullShare} lst m d L : sProp 𝕄)
    = (sK ![256] inb_S512_S128_256).view.loc (V d (cV L) (jV L)) ↦[(sK ![256] inb_S512_S128_256).view.set]{fullShare} lst m d L
      from (pts_sK d L 2 inb_S512_S128_256 _).symm)) $$ Hs2
  have hin2 := inb_of_pre m d L hpre ![256] inb_S512_S128_256
  ihave Hs3' := (Entails.of_eq (show ((V d (cV L) (jV L)).loc cc0_scratch0 ↦[sSet 3]{fullShare} lst m d L : sProp 𝕄)
    = (sK ![384] inb_S512_S128_384).view.loc (V d (cV L) (jV L)) ↦[(sK ![384] inb_S512_S128_384).view.set]{fullShare} lst m d L
      from (pts_sK d L 3 inb_S512_S128_384 _).symm)) $$ Hs3
  have hin3 := inb_of_pre m d L hpre ![384] inb_S512_S128_384
  sl_exec
  sl_step
  isplitl [Hi' Hx0' Hx1' Hx2' Hx3' Ho0' Ho1' Ho2' Ho3']
  · isplitl [Hi']; · iexact Hi'
    isplitl [Hx0' Hx1' Hx2' Hx3']
    · iapply (Entails.of_eq ((ShareLeaves.pointsTo_leaves Finset.univ (m (xLoc d)) 2 (shq (cL L) (jL L))).trans (bigSep_four _)).symm)
      isplitl [Hx0']; · iexact Hx0'
      isplitl [Hx1']; · iexact Hx1'
      isplitl [Hx2']; · iexact Hx2'
      iexact Hx3'
    isplitl [Ho0']
    · iapply (Entails.of_eq (chunk_val m d L 0 (k0_off2_inb L 0) (m (oLoc d)) (tile_body.sl.dma0_1 m d L fb hin0) fun y => dma_val _ _ _ _ (gather_val m d L hpre 0 _ _ rfl _ rfl hin0) y))
      iexact Ho0'
    isplitl [Ho1']
    · iapply (Entails.of_eq (chunk_val m d L 1 (k0_off2_inb L 1) (m (oLoc d)) (tile_body.sl.dma0_2 m d L fb hin1) fun y => dma_val _ _ _ _ (gather_val m d L hpre 1 _ _ rfl _ rfl hin1) y))
      iexact Ho1'
    isplitl [Ho2']
    · iapply (Entails.of_eq (chunk_val m d L 2 (k0_off2_inb L 2) (m (oLoc d)) (tile_body.sl.dma0_3 m d L fb hin2) fun y => dma_val _ _ _ _ (gather_val m d L hpre 2 _ _ rfl _ rfl hin2) y))
      iexact Ho2'
    · iapply (Entails.of_eq (chunk_val m d L 3 (k0_off2_inb L 3) (m (oLoc d)) (tile_body.sl.dma0_4 m d L fb hin3) fun y => dma_val _ _ _ _ (gather_val m d L hpre 3 _ _ rfl _ rfl hin3) y))
      iexact Ho3'
  isplitl [Hs0' Hs1' Hs2' Hs3' Hb0' Hb1' Hb2' Hb3' Hbufs]
  · isplitl [Hs0' Hs1' Hs2' Hs3']
    · iexists lst m d L
      iapply (Entails.of_eq ((idx_parts d L (lst m d L)).trans (bigSep_four _)).symm)
      isplitl [Hs0']; · iapply (Entails.of_eq (pts_sK d L 0 inb_S512_S128_0 _)); iexact Hs0'
      isplitl [Hs1']; · iapply (Entails.of_eq (pts_sK d L 1 inb_S512_S128_128 _)); iexact Hs1'
      isplitl [Hs2']; · iapply (Entails.of_eq (pts_sK d L 2 inb_S512_S128_256 _)); iexact Hs2'
      iapply (Entails.of_eq (pts_sK d L 3 inb_S512_S128_384 _)); iexact Hs3'
    isplitl [Hb0' Hb1' Hb2' Hb3']
    · iapply (slots_join d L)
      isplitl [Hb0']; · iexists _; iapply (Entails.of_eq (pts_bK d L 0 inb_S4x128x128_S1x128x128_0_0_0 _)); iexact Hb0'
      isplitl [Hb1']; · iexists _; iapply (Entails.of_eq (pts_bK d L 1 inb_S4x128x128_S1x128x128_1_0_0 _)); iexact Hb1'
      isplitl [Hb2']; · iexists _; iapply (Entails.of_eq (pts_bK d L 2 inb_S4x128x128_S1x128x128_2_0_0 _)); iexact Hb2'
      iexists _; iapply (Entails.of_eq (pts_bK d L 3 inb_S4x128x128_S1x128x128_3_0_0 _)); iexact Hb3'
    iexact Hbufs
  isplitl [Hg0 Hg1 Hg2 Hg3 Hw0 Hw1 Hw2 Hw3 Hc Hsems]
  · isplitr [Hsems]
    · isplitl [Hg0]; · iexact Hg0
      isplitl [Hg1]; · iexact Hg1
      isplitl [Hg2]; · iexact Hg2
      isplitl [Hg3]; · iexact Hg3
      isplitl [Hw0]; · iexact Hw0
      isplitl [Hw1]; · iexact Hw1
      isplitl [Hw2]; · iexact Hw2
      isplitl [Hw3]; · iexact Hw3
      iexact Hc
    iexact Hsems
  iexists _; isplitr; swap
  · iexact HO
  ipureintro
  iterate 9 refine forall_insert_none ?_
  exact fun p hp => .inl hp

end Tile

end Cert.Proof.Run

end
-- ==== Proof.Oblig.lean ====
/-
  The launch's obligations: what a SparseCore and a tile are handed and hand back, the task met at every tile, and
  the positions, the table and the output split over the tiles and joined again.
-/
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_arg1_scv : Memref Cert.KernelIdeal.sig Kind.scVector Space.hbm Cert.KernelIdeal.S4x4096 EltTy.i32)
local notation "xV" => (Memref.whole Cert.KernelIdeal.main_arg2_scv : Memref Cert.KernelIdeal.sig Kind.scVector Space.hbm Cert.KernelIdeal.S8192x128 EltTy.f32)
local notation "oV" => (Memref.whole Cert.KernelIdeal.main_v13_scv : Memref Cert.KernelIdeal.sig Kind.scVector Space.hbm Cert.KernelIdeal.S4x4096x128 EltTy.f32)
local notation "sV" => (Memref.whole Cert.KernelIdeal.cc0_scratch0 : Memref Cert.KernelIdeal.sig Kind.scVector Space.vmem Cert.KernelIdeal.S512 EltTy.i32)
local notation "bV" => (Memref.whole Cert.KernelIdeal.cc0_scratch1 : Memref Cert.KernelIdeal.sig Kind.scVector Space.vmem Cert.KernelIdeal.S4x128x128 EltTy.f32)

variable (m : (ℓ : Loc nD τ sig) → Buf (Elt F) ℓ) (ρ : Dev nD → PrngReg)

/-- WHAT THE HANDSHAKES CARRY. A tile is started on its shares of the positions and of the table and its four chunks of
    the output as launched, and ends with the chunks at the gathered cosines; a SparseCore is started on, and ends
    with, its sixteen tiles' parts. -/
def P : (K (F := F)).Pay (nD := nD) (Val := Elt F) (Name := ℕ) (U := UU) where
  st := fun q d c => match q with | 0 => bigSep Finset.univ fun s : Fin 16 => tP m d (Fin.cast nCore_zero c) s (m (oLoc d))
  dn := fun q d c => match q with | 0 => bigSep Finset.univ fun s : Fin 16 => tP m d (Fin.cast nCore_zero c) s (oVal m d)
  go := fun q d c i => match q with | 0 => tP m d (Fin.cast nCore_zero c) (Fin.cast nSub_zero i) (m (oLoc d))
  td := fun q d c i => match q with | 0 => tP m d (Fin.cast nCore_zero c) (Fin.cast nSub_zero i) (oVal m d)
  x := fun _ _ => iprop(emp)

instance P_storable : (P (F := F) m).IsStorable where
  st q d c := match q with
    | 0 => (inferInstance : BI.Storable (upEmb : UEmb _ 𝕄) (bigSep Finset.univ fun s : Fin 16 => tP m d (Fin.cast nCore_zero c) s (m (oLoc d))))
  dn q d c := match q with
    | 0 => (inferInstance : BI.Storable (upEmb : UEmb _ 𝕄) (bigSep Finset.univ fun s : Fin 16 => tP m d (Fin.cast nCore_zero c) s (oVal m d)))
  go q d c i := match q with
    | 0 => (inferInstance : BI.Storable (upEmb : UEmb _ 𝕄) (tP m d (Fin.cast nCore_zero c) (Fin.cast nSub_zero i) (m (oLoc d))))
  td q d c i := match q with
    | 0 => (inferInstance : BI.Storable (upEmb : UEmb _ 𝕄) (tP m d (Fin.cast nCore_zero c) (Fin.cast nSub_zero i) (oVal m d)))

section Obl

variable [FloatOps F]

theorem defs₀_vector (c : Fin τ.nSC) (s : Fin τ.nSub) :
    defs₀ (F := F) (.scVector c s) 0 ()
      = SparseCore.onTile hcore0 hsub0 (fun c s => cc0_gather (coordsV c s)
          xV (Memref.isWhole_whole _) iV (Memref.isWhole_whole _) oV (Memref.isWhole_whole _)
          sV (Memref.isWhole_whole _) bV (Memref.isWhole_whole _) cc0_scratch2 cc0_scratch3 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The task at every SparseCore and tile of every device. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Obl

/-! ## The split over the tiles -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

set_option maxRecDepth 4096 in
/-- A SparseCore's part is its tiles' parts. -/
theorem vecSplit : (K (F := F)).VecSplit' (P m) 0 := by
  intro d c
  show (bigSep Finset.univ fun s : Fin 16 => tP m d (Fin.cast nCore_zero c) s (m (oLoc d))) ⊢ |={Set.univ}=> iprop(
      (bigSep Finset.univ fun i : Fin ((K (F := F)).nSub 0) => tP m d (Fin.cast nCore_zero c) (Fin.cast nSub_zero i) (m (oLoc d)))
      ∗ ((bigSep Finset.univ fun i : Fin ((K (F := F)).nSub 0) => tP m d (Fin.cast nCore_zero c) (Fin.cast nSub_zero i) (oVal m d))
          -∗ (bigSep Finset.univ fun s : Fin 16 => tP m d (Fin.cast nCore_zero c) s (oVal m d))))
  rw [bigSep_tasks (F := F) (fun s => tP m d (Fin.cast nCore_zero c) s (m (oLoc d))),
    bigSep_tasks (F := F) (fun s => tP m d (Fin.cast nCore_zero c) s (oVal m d))]
  iintro H; imodintro
  isplitl [H]; · iexact H
  iintro H; iexact H

/-- A buffer held whole is its thirty-two leaves, by SparseCore and tile. -/
theorem pts_shares {ℓ : Loc nD τ sig} (f : Buf (Elt F) ℓ) :
    (ℓ ↦{fullShare} f : sProp 𝕄) = bigSep Finset.univ fun c : Fin 2 => bigSep Finset.univ fun s : Fin 16 => ℓ ↦{shq c s} f := by
  refine (ShareLeaves.pointsTo_leaves Finset.univ f 5 fullShare).trans ?_
  refine (bigSep_univ_equiv (finProdFinEquiv (m := 2) (n := 16)) (fun i : Fin (2 * 16) => (ℓ ↦{ShareLeaves.leaf 5 fullShare (i.cast rfl)} f : sProp 𝕄))).trans ?_
  exact bigSep_univ_prod _

/-- The output held whole is the workers' chunks. -/
theorem pts_chunks (d : Dev nD) (f : Buf (Elt F) (oLoc d)) :
    (oLoc d ↦{fullShare} f : sProp 𝕄) = bigSep Finset.univ fun c : Fin 2 => bigSep Finset.univ fun s : Fin 16 => oCh d c s f := by
  have h : (oLoc d ↦{fullShare} f : sProp 𝕄) = bigSep Finset.univ fun p : (Fin 2 × Fin 16) × Fin 4 => oLoc d ↦[oSet' p]{fullShare} f := by
    rw [← pointsTo_biUnion Finset.univ (ℓ := oLoc d) oSet' oSet_disjoint, oSet_cover]; try rfl
  rw [h, bigSep_univ_prod, bigSep_univ_prod]

/-- THE CALL'S OPERANDS: the SparseCores' parts together are the positions, the table and the output, whole. -/
theorem cores_eq (d : Dev nD) (f : Buf (Elt F) (oLoc d)) :
    (bigSep Finset.univ fun c : Fin 2 => bigSep Finset.univ fun s : Fin 16 => tP m d c s f)
      = (iprop((iLoc d ↦{fullShare} m (iLoc d)) ∗ (xLoc d ↦{fullShare} m (xLoc d)) ∗ oLoc d ↦{fullShare} f) : sProp 𝕄) := by
  rw [pts_shares, pts_shares, pts_chunks, ← bigSep_sep', ← bigSep_sep']
  refine bigSep_congr fun c _ => ?_
  rw [← bigSep_sep', ← bigSep_sep']

theorem st0_eq (d : Dev nD) : (bigSep Finset.univ fun c : Fin ((K (F := F)).nCore 0) => (P m).st 0 d c)
    = iprop((iLoc d ↦{fullShare} m (iLoc d)) ∗ (xLoc d ↦{fullShare} m (xLoc d)) ∗ oLoc d ↦{fullShare} m (oLoc d)) :=
  (bigSep_cores fun c => bigSep Finset.univ fun s : Fin 16 => tP m d c s (m (oLoc d))).trans (cores_eq m d _)
theorem dn0_eq (d : Dev nD) : (bigSep Finset.univ fun c : Fin ((K (F := F)).nCore 0) => (P m).dn 0 d c)
    = iprop((iLoc d ↦{fullShare} m (iLoc d)) ∗ (xLoc d ↦{fullShare} m (xLoc d)) ∗ oLoc d ↦{fullShare} oVal m d) :=
  (bigSep_cores fun c => bigSep Finset.univ fun s : Fin 16 => tP m d c s (oVal m d)).trans (cores_eq m d _)

end Cert.Proof.Run

end
-- ==== Proof.Region.lean ====
/-
  The TensorCore's pallas_call: its body at a grid point, and what the launch leaves in the array of sines.
-/
module

public import proofs.«01_k».proof.Proof.Oblig
public import proofs.«01_k».proof.Proof.Gen.KernelIdeal.Points
public import proofs.«01_k».proof.Proof.Gen.KernelIdeal.Launch
public import Idealize.ShloMosaic.Lib.Pipeline.Regions
public import Idealize.ShloMosaic.Lib.Pipeline.ValueKit
public import Idealize.ShloMosaic.Lib.Tactic
public import Idealize.ShloMosaic.Lib.Pointwise

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Tactic

variable {F : FTy → Type}

local notation "𝕄" => MT nD τ sig (HIx 1) (Elt F) ℕ UU ℕ

variable [FloatOps F]

theorem zeros3 : (![0, 0, 0] : Fin 3 → ℕ) = fun _ => 0 := by decide
theorem zeros2 : (![0, 0] : Fin 2 → ℕ) = fun _ => 0 := by decide

/-- The frequencies and the sines, in device memory. -/
abbrev fLoc (d : Dev nD) : Loc nD τ sig := (SparseCore.T d).loc main_v12
abbrev yLoc (d : Dev nD) : Loc nD τ sig := (SparseCore.T d).loc main_v14

/-- The sines of 1024 consecutive positions of one row: the block that the body stores at grid point `i`. -/
abbrev sinBlk (i : grid1.Coords) (X0 : S4x4096.Idx → Elt F .i32) (X1 : S1x128.Idx → Elt F .f32) : S1x1024x128.Idx → Elt F .f32 :=
  k1_pay1 (View.ld X0 (Rect.unit (s := S4x4096) (k1_off1 i) S1x1024.size (k1_off1_inb i))) X1

/-- A store over the whole of a view leaves its payload to be read. -/
theorem read_store_whole {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) :
    v.read (Elt F) (v.writes (Elt F) f [⟨Rect.unit off S.size inb, w⟩]) = w :=
  (View.read_writes_eq_canon v f _ fun y => ⟨_, List.mem_singleton_self _, View.mem_set_unit_zero h inb y⟩).trans (View.canon_unit_zero h inb w)

/-- The body from its three staging buffers: the positions and the frequencies stay, the third ends at the sines. -/
theorem body_run (c : Dev nD) (i : grid1.Coords) (M0 : Memref sig .tc .vmem S4x4096 .i32) (h0 : M0.IsWhole)
    (M1 : Memref sig .tc .vmem S1x128 .f32) (h1 : M1.IsWhole) (M2 : Memref sig .tc .vmem S1x1024x128 .f32) (h2 : M2.IsWhole)
    (X0 : S4x4096.Idx → Elt F .i32) (X1 : S1x128.Idx → Elt F .f32) (E : Set ℕ) (Q : PUnit → sProp 𝕄) :
    iprop(owns (T c) M0 fullShare X0 ∗ owns (T c) M1 fullShare X1 ∗ (∃ d, owns (T c) M2 fullShare d)
        ∗ (iprop(owns (T c) M0 fullShare X0 ∗ owns (T c) M1 fullShare X1 ∗ owns (T c) M2 fullShare (sinBlk i X0 X1)) -∗ Q ⟨⟩))
      ⊢ wp frame (wpE (defs₀ (F := F)) 𝒱₀ (T c) none) E (cc1_body i M0 h0 M1 h1 M2 h2) Q := by
  rw [cc1_body_eq_skeleton]; unfold cc1_body_skel
  unfold owns
  iintro ⟨⟨%f0, %hf0, H0⟩, ⟨%f1, %hf1, H1⟩, ⟨%d2, %f2, -, H2⟩, Hk⟩
  rw [h0.set_eq_univ, h1.set_eq_univ, h2.set_eq_univ]
  sl_exec
  sl_step
  iapply Hk
  isplitl [H0]
  · iexists _; isplitr; swap; · iexact H0
    ipureintro; exact hf0
  isplitl [H1]
  · iexists _; isplitr; swap; · iexact H1
    ipureintro; exact hf1
  iexists _; isplitr; swap; · iexact H2
  ipureintro
  subst hf0 hf1
  refine (read_store_whole M2.view f2 zeros3 inb_S1x1024x128_S1x1024x128_0_0_0 _).trans ?_
  rw [View.readAt_eq_ld, View.readAt_eq_ld]
  exact congrArg (k1_pay1 _) (View.ld_unit_zero (S := S1x128) zeros2 inb_S1x128_S1x128_0_0 _)

/-! ## The proof data -/

section Data

variable (A0 : (d : Dev nD) → Buf (Elt F) (iLoc d)) (A1 : (d : Dev nD) → Buf (Elt F) (fLoc d)) (A2 : (d : Dev nD) → Buf (Elt F) (yLoc d))

/-- The waits that the TensorCore may have recorded once the SparseCore call is over. -/
abbrev wb (c : Dev nD) : Set (SemLoc sig × HIx 1) := {p | (K (F := F)).lev (nD := nD) (T c, p.1) p.2 ≤ 8}

/-- The launch's proof data: the arrays as they stand at entry, the two inputs' blocks as fetched, the output's block
    at the sines, nothing owed. -/
def dat (c : Dev nD) : Dat τ (Elt F) (HIx 1) ℕ UU ℕ cfg1 c where
  A w := match w with
    | ⟨0, _⟩ => A0 c
    | ⟨1, _⟩ => A1 c
    | ⟨2, _⟩ => A2 c
  after w t := match w with
    | ⟨0, _⟩ => ((cfg1.win 0).blk t).view.read (Elt F) (A0 c)
    | ⟨1, _⟩ => ((cfg1.win 1).blk t).view.read (Elt F) (A1 c)
    | ⟨2, _⟩ => sinBlk (grid1.coords t) (((cfg1.win 0).blk t).view.read (Elt F) (A0 c)) (((cfg1.win 1).blk t).view.read (Elt F) (A1 c))
  Φ _ := iprop(emp)
  q _ := fullShare
  owed _ := 0
  recorded _ := wb (F := F) c

theorem before_zero (c : Dev nD) (t : Fin cfg1.N) (d) :
    (dat A0 A1 A2 c).before 0 t d = ((cfg1.win 0).blk t).view.read (Elt F) (A0 c) :=
  (dat A0 A1 A2 c).before_in_eq_fetched 0 rfl (fun _ => rfl) (fun _ _ _ => rfl) (fun _ => rfl) t d

theorem before_one (c : Dev nD) (t : Fin cfg1.N) (d) :
    (dat A0 A1 A2 c).before 1 t d = ((cfg1.win 1).blk t).view.read (Elt F) (A1 c) :=
  (dat A0 A1 A2 c).before_in_eq_fetched 1 rfl (fun _ => rfl) (fun _ _ _ => rfl) (fun _ => rfl) t d

/-- The body's obligation at every grid point. -/
theorem body_obligation (c : Dev nD) : BodyObligation (dat A0 A1 A2 c) (defs₀ (F := F)) 𝒱₀ (none : HIx 1) Set.univ := fun t => by
  rw [bigSep_W1, bigSep_W1]
  rw [show (dat A0 A1 A2 c).Φ t.succ = (dat A0 A1 A2 c).Φ t.castSucc from rfl,
    show (dat A0 A1 A2 c).owesAt (none : HIx 1) t.succ = (dat A0 A1 A2 c).owesAt none t.castSucc from rfl]
  iintro ⟨HΦ, Howes, ⟨%d0, H0⟩, ⟨%d1, H1⟩, ⟨%d2, H2⟩⟩
  rw [before_zero, before_one]
  iapply (body_run (F := F) c (grid1.coords t) _ (hstage1_0 ((cfg1.slots t 0).cast nbuf1_0)) _ (hstage1_1 ((cfg1.slots t 1).cast nbuf1_1)) _ (hstage1_2 ((cfg1.slots t 2).cast nbuf1_2)) (((cfg1.win 0).blk t).view.read (Elt F) (A0 c)) (((cfg1.win 1).blk t).view.read (Elt F) (A1 c)) Set.univ _)
  isplitl [H0]; · iexact H0
  isplitl [H1]; · iexact H1
  isplitl [H2]; · iexists _; iexact H2
  iintro ⟨H0, H1, H2⟩
  isplitl [HΦ]; · iexact HΦ
  isplitl [Howes]; · iexact Howes
  isplitl [H0]; · iexact H0
  isplitl [H1]; · iexact H1
  iexact H2

/-! ## What the launch leaves -/

/-- The sine of every position's angle: position times frequency, column by column. -/
def sinOut (pos : S4x4096.Idx → Elt F .i32) (fr : S1x128.Idx → Elt F .f32) : S4x4096x128.Idx → Elt F .f32 :=
  fun x => FloatOps.sin (φ := .f32) (FloatOps.mulf (φ := .f32) (FloatOps.sitofp .f32 (pos (ValueIdx.ix2 (x 0) (x 1)) : BitVec 32)) (fr (ValueIdx.ix2 (0 : Fin 1) (x 2))))

/-- One element of the block that the body stores. -/
theorem sinBlk_apply (i : grid1.Coords) (X0 : S4x4096.Idx → Elt F .i32) (X1 : S1x128.Idx → Elt F .f32) (y : S1x1024x128.Idx) (p : S4x4096.Idx)
    (h0 : (p 0).val = (i 0).val) (h1 : (p 1).val = 1024 * (i 1).val + (y 1).val) :
    sinBlk i X0 X1 y = FloatOps.sin (φ := .f32) (FloatOps.mulf (φ := .f32) (FloatOps.sitofp .f32 (X0 p : BitVec 32)) (X1 (ValueIdx.ix2 (0 : Fin 1) (y 2)))) := by
  unfold sinBlk
  pointwise [k1_pay1]
  have e : ∀ q : S4x4096.Idx, (q 0).val = k1_off1 i 0 → (q 1).val = k1_off1 i 1 + (y 1).val → q = p := fun q hq0 hq1 => by
    have hv0 : k1_off1 i 0 = (i 0).val := congrFun (k1_off1_eq i) 0
    have hv1 : k1_off1 i 1 = 1024 * (i 1).val := congrFun (k1_off1_eq i) 1
    funext a; apply Fin.ext
    match a with
    | 0 => rw [hq0, hv0, h0]
    | 1 => rw [hq1, hv1, h1]
  refine congrArg₂ (fun a b => FloatOps.sin (FloatOps.mulf (FloatOps.sitofp FTy.f32 a) b)) (congrArg X0 (e _ rfl rfl)) (congrArg X1 ?_)
  exact ValueIdx.eq_ix2 _

theorem index_zero : ∀ t : Fin cfg1.N, win1_0.index t = ![0, 0] := (by decide +kernel : ∀ t : Fin grid1.N, _)
theorem index_one : ∀ t : Fin cfg1.N, win1_1.index t = ![0, 0] := (by decide +kernel : ∀ t : Fin grid1.N, _)
theorem index_two : ∀ t : Fin cfg1.N, win1_2.index t = ![(grid1.coords t 0).val, (grid1.coords t 1).val, 0] := (by decide +kernel : ∀ t : Fin grid1.N, _)

theorem arr_sin (c : Dev nD) : (dat A0 A1 A2 c).arrAt 2 cfg1.N = sinOut (A0 c) (A1 c) := by
  refine (dat A0 A1 A2 c).arrAt_eq_of_covers 2 _ (by decide +kernel) fun t hf y => ?_
  blk_simp
  refine (sinBlk_apply (grid1.coords t) _ _ y (ValueIdx.ix2 ((win1_2.blk t).view.emb y 0) ((win1_2.blk t).view.emb y 1)) ?_ ?_).trans ?_
  · show ((win1_2.blk t).view.emb y 0 : ℕ) = _
    blk_simp [index_two]
  · show ((win1_2.blk t).view.emb y 1 : ℕ) = _
    blk_simp [index_two]
    omega
  · unfold sinOut
    blk_simp
    refine congrArg₂ (fun a b => FloatOps.sin (FloatOps.mulf (FloatOps.sitofp FTy.f32 a) b)) (congrArg (A0 c) ?_) (congrArg (A1 c) ?_)
    · blk_ext [index_zero, index_two]
    · blk_ext [index_one, index_two]
      show (y 2 : ℕ) = ((win1_2.blk t).view.emb y 2 : ℕ)
      blk_simp [index_two]

/-! ## The region -/

variable (adm : (p : Fin 1) → (pcfgs (F := F) p).Adm)

/-- The family of proof data: one pallas_call. -/
def pdats : (p : Fin 1) → (c : Dev nD) → Dat τ (Elt F) (HIx 1) ℕ UU ℕ (Pipeline.pin (pcfgs (F := F)) adm p) c
  | ⟨0, _⟩ => fun c => dat A0 A1 A2 c

/-- What the core has recorded stays below the level of the SparseCore call that has ended. -/
abbrev owesBelow (c : Dev nD) : sProp 𝕄 :=
  iprop(∃ W, ⌜(K (F := F)).WBelow (T c) W 8⌝ ∗ owes (T c) (0 : CellTallies nD τ sig (HIx 1)) W)

theorem share_one (c : Dev nD) (w : Fin 3) : (pdats A0 A1 A2 adm 0 c).share w = fullShare := by
  unfold Pipeline.Dat.share; split <;> rfl

set_option backward.isDefEq.respectTransparency.types false in
/-- The pallas_call from its three arrays and what the core owes, to the array of sines. -/
def reg : Pipeline.RegionSeg (pcfgs (F := F)) adm (pdats A0 A1 A2 adm) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation A0 A1 A2 c).loose
  hwaits := Pipeline.hwaits_of_owed_zero _ _ _ _ _ _ 0 fun _ _ => rfl
  pre c := iprop(((iLoc c ↦{fullShare} A0 c) ∗ (fLoc c ↦{fullShare} A1 c) ∗ (yLoc c ↦{fullShare} A2 c)) ∗ owesBelow c)
  post c := iprop(((iLoc c ↦{fullShare} A0 c) ∗ (fLoc c ↦{fullShare} A1 c) ∗ (yLoc c ↦{fullShare} sinOut (A0 c) (A1 c))) ∗ owesBelow c)
  X _ := iprop(emp)
  Y _ := iprop(emp)
  Z _ := iprop(emp)
  hentry c := by
    rw [Pipeline.ownSems0_none, Pipeline.arrays_eq _ (pdats A0 A1 A2 adm) 0 c (launch1).arr_whole (share_one A0 A1 A2 adm c), bigSep_W1]
    iintro ⟨⟨Ha, %W, %hW, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iempintro
  hin c := by
    rw [show (pdats A0 A1 A2 adm 0 c).Φ 0 = iprop(emp) from rfl]
    iintro -; iempintro
  hout c := by
    rw [Pipeline.ownSems0_none]
    iintro -
    isplitr; · iempintro
    isplitr; · iempintro
    rw [show Pipeline.scopedRest (pcfgs (F := F) 0).spec c = (iprop(emp) : sProp 𝕄) from scopedRest1_eq c]
    iempintro
  hexit c := by
    rw [Pipeline.arrays_eq _ (pdats A0 A1 A2 adm) 0 c (launch1).arr_whole (share_one A0 A1 A2 adm c), bigSep_W1]
    rw [show (pdats A0 A1 A2 adm 0 c).arrAt 0 cfg1.N = A0 c from (dat A0 A1 A2 c).arrAt_in 0 rfl _,
      show (pdats A0 A1 A2 adm 0 c).arrAt 1 cfg1.N = A1 c from (dat A0 A1 A2 c).arrAt_in 1 rfl _,
      show (pdats A0 A1 A2 adm 0 c).arrAt 2 cfg1.N = sinOut (A0 c) (A1 c) from arr_sin A0 A1 A2 c]
    iintro ⟨Ha, HO, -, -⟩
    imodintro
    isplitl [Ha]; · iexact Ha
    unfold Pipeline.Dat.owesAt Pipeline.owesWithin
    icases HO with ⟨%W, %hW, HO⟩; iexists W
    isplitr; swap; · iexact HO
    ipureintro
    intro p hp
    rcases hW hp with h | ⟨w, s, rfl⟩
    · exact h
    · exact Nat.zero_le _

end Data

end Cert.Proof.Run

end
-- ==== Proof.Main.lean ====
/-
  The program's main thread: the host computes the 128 frequencies, the SparseCores gather the cosines, and the
  TensorCore's pallas_call computes the sines. From the launch to the end of the whole program.
-/
module

public import proofs.«01_k».proof.Proof.Region
public import Idealize.ShloMosaic.Lib.StableHlo.RunRead
public import Idealize.ShloMosaic.Lib.Pipeline.Sound

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's operations -/

/-- Two rows of 64, one after the other. -/
def join (a b : S64.Idx → Elt F .f32) : S128.Idx → Elt F .f32 := concatenate S128 0 [⟨S64, a⟩, ⟨S64, b⟩] concatenates_S64_S64_S128_d0

/-- The operations that compute the frequencies, in order. -/
def ops : List (HloOp τ sig (Elt F)) :=
  [StableHlo.nullary main_v0 (sitofp .f32 (iotaInDim S64 32 0)),
    StableHlo.nullary main_cst (constant S_ .f32 0x40000000#32),
    StableHlo.unary main_cst main_v1 (broadcastInDim S64 ![] bcast_S_S64 : (⟨S_, .f32⟩ : BufTy).Contents (Elt F) → (⟨S64, .f32⟩ : BufTy).Contents (Elt F)),
    StableHlo.binary main_v1 main_v0 main_v2 (mulf : (⟨S64, .f32⟩ : BufTy).Contents (Elt F) → (⟨S64, .f32⟩ : BufTy).Contents (Elt F) → (⟨S64, .f32⟩ : BufTy).Contents (Elt F)),
    StableHlo.nullary main_cst_0 (constant S_ .f32 0x00000000#32),
    StableHlo.unary main_cst_0 main_v3 (broadcastInDim S64 ![] bcast_S_S64 : (⟨S_, .f32⟩ : BufTy).Contents (Elt F) → (⟨S64, .f32⟩ : BufTy).Contents (Elt F)),
    StableHlo.binary main_v3 main_v2 main_v4 (addf : (⟨S64, .f32⟩ : BufTy).Contents (Elt F) → (⟨S64, .f32⟩ : BufTy).Contents (Elt F) → (⟨S64, .f32⟩ : BufTy).Contents (Elt F)),
    StableHlo.nullary main_cst_1 (constant S_ .f32 0x43000000#32),
    StableHlo.unary main_cst_1 main_v5 (broadcastInDim S64 ![] bcast_S_S64 : (⟨S_, .f32⟩ : BufTy).Contents (Elt F) → (⟨S64, .f32⟩ : BufTy).Contents (Elt F)),
    StableHlo.binary main_v4 main_v5 main_v6 (Host.divf : (⟨S64, .f32⟩ : BufTy).Contents (Elt F) → (⟨S64, .f32⟩ : BufTy).Contents (Elt F) → (⟨S64, .f32⟩ : BufTy).Contents (Elt F)),
    StableHlo.nullary main_cst_2 (constant S_ .f32 0x461C4000#32),
    StableHlo.unary main_cst_2 main_v7 (broadcastInDim S64 ![] bcast_S_S64 : (⟨S_, .f32⟩ : BufTy).Contents (Elt F) → (⟨S64, .f32⟩ : BufTy).Contents (Elt F)),
    StableHlo.binary main_v7 main_v6 main_v8 (Host.powf : (⟨S64, .f32⟩ : BufTy).Contents (Elt F) → (⟨S64, .f32⟩ : BufTy).Contents (Elt F) → (⟨S64, .f32⟩ : BufTy).Contents (Elt F)),
    StableHlo.nullary main_cst_3 (constant S_ .f32 0x3F800000#32),
    StableHlo.unary main_cst_3 main_v9 (broadcastInDim S64 ![] bcast_S_S64 : (⟨S_, .f32⟩ : BufTy).Contents (Elt F) → (⟨S64, .f32⟩ : BufTy).Contents (Elt F)),
    StableHlo.binary main_v9 main_v8 main_v10 (Host.divf : (⟨S64, .f32⟩ : BufTy).Contents (Elt F) → (⟨S64, .f32⟩ : BufTy).Contents (Elt F) → (⟨S64, .f32⟩ : BufTy).Contents (Elt F)),
    StableHlo.binary main_v10 main_v10 main_v11 (join : (⟨S64, .f32⟩ : BufTy).Contents (Elt F) → (⟨S64, .f32⟩ : BufTy).Contents (Elt F) → (⟨S128, .f32⟩ : BufTy).Contents (Elt F)),
    StableHlo.reshape main_v11 main_v12 (rfl : (.f32 : EltTy) = .f32) shapeCasts_S128_S1x128]

theorem main_eq (d : Dev nD) : main (F := F) d = StableHlo.seq ops >>= fun _ =>
    (sc (F := F)).run d 0 >>= fun _ => Prog.lift (.customCall (SparseCore.inner (Pipeline.entry 0)) ()) >>= fun _ => pure ⟨⟩ := by
  rfl

/-- Sixty-four frequencies: entry `i` is `1 / 10000 ^ ((0 + 2 i) / 128)`. -/
def freq : S64.Idx → Elt F .f32 :=
  Host.divf (broadcastInDim S64 ![] bcast_S_S64 (constant (F := F) S_ .f32 0x3F800000#32))
    (Host.powf (broadcastInDim S64 ![] bcast_S_S64 (constant (F := F) S_ .f32 0x461C4000#32))
      (Host.divf (addf (broadcastInDim S64 ![] bcast_S_S64 (constant (F := F) S_ .f32 0x00000000#32))
          (mulf (broadcastInDim S64 ![] bcast_S_S64 (constant (F := F) S_ .f32 0x40000000#32)) (sitofp .f32 (iotaInDim S64 32 0))))
        (broadcastInDim S64 ![] bcast_S_S64 (constant (F := F) S_ .f32 0x43000000#32))))

/-- The row of 128 frequencies: the sixty-four, twice. -/
def freqRow : S1x128.Idx → Elt F .f32 :=
  shapeCast S1x128 (join freq freq) shapeCasts_S128_S1x128

variable (W : Valuation τ sig (Elt F))

theorem after_v12 : StableHlo.after ops W (Proc.devRef .tc main_v12) = (freqRow : S1x128.Idx → Elt F .f32) := by
  unfold ops; after_results_simp; rfl
theorem after_arg0 : StableHlo.after ops W (Proc.devRef .tc main_arg0) = W (Proc.devRef .tc main_arg0) := by
  unfold ops; after_results_simp
theorem after_arg1 : StableHlo.after ops W (Proc.devRef .tc main_arg1) = W (Proc.devRef .tc main_arg1) := by
  unfold ops; after_results_simp
theorem after_arg2 : StableHlo.after ops W (Proc.devRef .tc main_arg2) = W (Proc.devRef .tc main_arg2) := by
  unfold ops; after_results_simp
theorem after_arg3 : StableHlo.after ops W (Proc.devRef .tc main_arg3) = W (Proc.devRef .tc main_arg3) := by
  unfold ops; after_results_simp
theorem after_v13 : StableHlo.after ops W (Proc.devRef .tc main_v13) = W (Proc.devRef .tc main_v13) := by
  unfold ops; after_results_simp
theorem after_v14 : StableHlo.after ops W (Proc.devRef .tc main_v14) = W (Proc.devRef .tc main_v14) := by
  unfold ops; after_results_simp

/-! ## The buffers -/

/-- The memory a host operation of core `d` sees. -/
abbrev V0 (d : Dev nD) : Valuation τ sig (Elt F) := fun b => m (d, b)

theorem uc_split (d : Dev nD) (X : (b : Ref sig .tc) → Buf (Elt F) ((d.tc : Thread nD τ).loc b)) :
    (unscopedBufs d X : sProp 𝕄) = iprop((bigSep Finset.univ fun w : Fin 3 => (((d.tc : Thread nD τ).loc (Pipeline.arrRef spec1 w)) ↦{fullShare} X (Pipeline.arrRef spec1 w) : sProp 𝕄))
      ∗ Pipeline.unscopedRest spec1 d X) :=
  Pipeline.unscopedBufs_split (cfgs := cfgs) (0 : Fin 1) (by decide) (by decide) d X

theorem seq_sub : ∀ op ∈ (ops : List (HloOp τ sig (Elt F))), op.bufs ⊆ Pipeline.ucRefs τ sig := by
  intro op h
  refine Pipeline.sub_ucRefs op ?_
  simp only [ops, List.mem_cons, List.mem_nil_iff, or_false] at h
  rcases h with rfl | rfl | rfl | rfl | rfl | rfl | rfl | rfl | rfl | rfl | rfl | rfl | rfl | rfl | rfl | rfl | rfl | rfl <;>
    simp only [StableHlo.nullary_bufs, StableHlo.unary_bufs, StableHlo.binary_bufs, StableHlo.reshape_bufs, Finset.insert_subset_iff,
      Finset.singleton_subset_iff] <;>
    first
    | exact StableHlo.devRef_mem_tcRefs _
    | exact ⟨StableHlo.devRef_mem_tcRefs _, StableHlo.devRef_mem_tcRefs _⟩
    | exact ⟨StableHlo.devRef_mem_tcRefs _, StableHlo.devRef_mem_tcRefs _, StableHlo.devRef_mem_tcRefs _⟩

theorem seq_fresh : ∀ op ∈ (ops : List (HloOp τ sig (Elt F))), op.fresh = ∅ := by
  intro op h
  simp only [ops, List.mem_cons, List.mem_nil_iff, or_false] at h
  rcases h with rfl | rfl | rfl | rfl | rfl | rfl | rfl | rfl | rfl | rfl | rfl | rfl | rfl | rfl | rfl | rfl | rfl | rfl <;> rfl

/-! ## The ghost state of the pallas_call -/

abbrev adm : (p : Fin 1) → (pcfgs (F := F) p).Adm := fun p => (cfgs p).toPCfg_adm

theorem cells_inj : Function.Injective (Pipeline.cellOf (nD := nD) (τ := τ) (Pipeline.pin (pcfgs (F := F)) adm)) :=
  launch1.toP.cellOf_inj adm

/-- What the TensorCore of `d` starts with besides its buffers: the pallas_call's rounds. -/
abbrev G (d : Dev nD) : sProp 𝕄 :=
  iprop(Pipeline.cellsGhost (Pipeline.pin (pcfgs (F := F)) adm) EP 0 d ∗ Pipeline.toksInit (Pipeline.pin (pcfgs (F := F)) adm) EP 0 d)

def u₀ : UU :=
  (initOf (K (F := F)).hsCells (K (F := F)).hsToks,
    (initOf (Pipeline.cells (Pipeline.pin (pcfgs (F := F)) adm) cells_inj) (Pipeline.launchToks (Pipeline.pin (pcfgs (F := F)) adm) cells_inj), 1))

theorem hu₀ : (ownU (u₀ (F := F)) : sProp 𝕄) ⊢ |={Set.univ}=> iprop(BI.own (EH (initOf (K (F := F)).hsCells (K (F := F)).hsToks)) ∗ (bigSep Finset.univ fun d : Dev nD => G (F := F) d)
    ∗ bigSep Finset.univ fun thr : Thread nD τ => bigSep Finset.univ fun q : Fin 1 => (P m).x q thr) := by
  have hx : (iprop(emp) : sProp 𝕄) ⊢ bigSep Finset.univ fun thr : Thread nD τ => bigSep Finset.univ fun q : Fin 1 => (P m).x q thr :=
    Entails.of_eq (by
      show (BI.emp : sProp 𝕄) = bigSep Finset.univ fun _ : Thread nD τ => bigSep Finset.univ fun _ : Fin 1 => (BI.emp : sProp 𝕄)
      simp only [bigSep_emp_const])
  have hEP (x : UP) : (BI.own (((Emb.inl : Emb UP (UP × Counters)).trans embR) x) : sProp 𝕄) ⊢ BI.own (EP x) := by
    unfold EP embR; exact BI.Entails.refl _
  unfold u₀
  iintro Hu
  ihave Hu' := (ownU_pair _ _) $$ Hu
  icases Hu' with ⟨HH, HR⟩
  ihave HR' := (own_pair_emb _ _ _) $$ HR
  icases HR' with ⟨HP', -⟩
  ihave HP := (hEP _) $$ HP'
  imod (Pipeline.fund_ghost (Pipeline.pin (pcfgs (F := F)) adm) EP cells_inj) $$ HP with ⟨Hc, Ht⟩
  imodintro
  isplitl [HH]; · iexact HH
  isplitl [Hc Ht]
  · unfold G
    rw [bigSep_sep']
    isplitl [Hc]
    · simp only [bigSep_univ_of_subsingleton (0 : Fin 1)]; iexact Hc
    · simp only [bigSep_univ_of_subsingleton (0 : Fin 1)]; iexact Ht
  iapply hx; iempintro

/-! ## @main -/

/-- The contents of the sixteen-by-1024 sines at the end. -/
abbrev yVal (d : Dev nD) : Buf (Elt F) (yLoc d) := sinOut (m (iLoc d)) freqRow

abbrev aLoc (d : Dev nD) : Loc nD τ sig := (SparseCore.T d).loc main_arg0
abbrev zLoc (d : Dev nD) : Loc nD τ sig := (SparseCore.T d).loc main_arg3

/-- What the TensorCore of `d` ends with: the arguments as launched, the gathered cosines, the sines. -/
abbrev FIN (d : Dev nD) : sProp 𝕄 :=
  iprop((aLoc d ↦{fullShare} m (aLoc d)) ∗ (iLoc d ↦{fullShare} m (iLoc d)) ∗ (xLoc d ↦{fullShare} m (xLoc d)) ∗ (zLoc d ↦{fullShare} m (zLoc d))
    ∗ (oLoc d ↦{fullShare} oVal m d) ∗ (yLoc d ↦{fullShare} yVal m d))

/-- The buffers after the host's operations, those that matter. -/
theorem held_out (d : Dev nD) : (StableHlo.held (d.tc : Thread nD τ) (Pipeline.ucRefs τ sig) (StableHlo.after ops (V0 m d)) : sProp 𝕄)
    ⊢ iprop((aLoc d ↦{fullShare} m (aLoc d)) ∗ (iLoc d ↦{fullShare} m (iLoc d)) ∗ (xLoc d ↦{fullShare} m (xLoc d)) ∗ (zLoc d ↦{fullShare} m (zLoc d))
      ∗ (oLoc d ↦{fullShare} m (oLoc d)) ∗ (yLoc d ↦{fullShare} m (yLoc d)) ∗ (fLoc d ↦{fullShare} (freqRow : S1x128.Idx → Elt F .f32))) := by
  rw [← Pipeline.unscopedBufs_held, uc_split, unscopedRest1_eq, bigSep_W1]
  iintro ⟨⟨H1, H12, H14⟩, H0, H2, H3, -, -, -, -, -, -, -, -, -, -, -, -, -, -, -, -, -, H13⟩
  isplitl [H0]; · rw [← show StableHlo.after ops (V0 m d) (Proc.devRef .tc main_arg0) = m (aLoc d) from after_arg0 (V0 m d)]; iexact H0
  isplitl [H1]; · rw [← show StableHlo.after ops (V0 m d) (Proc.devRef .tc main_arg1) = m (iLoc d) from after_arg1 (V0 m d)]; iexact H1
  isplitl [H2]; · rw [← show StableHlo.after ops (V0 m d) (Proc.devRef .tc main_arg2) = m (xLoc d) from after_arg2 (V0 m d)]; iexact H2
  isplitl [H3]; · rw [← show StableHlo.after ops (V0 m d) (Proc.devRef .tc main_arg3) = m (zLoc d) from after_arg3 (V0 m d)]; iexact H3
  isplitl [H13]; · rw [← show StableHlo.after ops (V0 m d) (Proc.devRef .tc main_v13) = m (oLoc d) from after_v13 (V0 m d)]; iexact H13
  isplitl [H14]; · rw [← show StableHlo.after ops (V0 m d) (Proc.devRef .tc main_v14) = m (yLoc d) from after_v14 (V0 m d)]; iexact H14
  rw [← after_v12 (V0 m d)]; iexact H12

/-- The TensorCore's state after the call, with its record of waits apart. -/
theorem tcSt_one (d : Dev nD) : ∃ R : sProp 𝕄, ((K (F := F)).tcSt EH d 1 : sProp 𝕄) = iprop(owesBelow d ∗ R) := by
  unfold SparseCore.Cfg.tcSt owesBelow
  rw [(K (F := F)).Otc_end d le_rfl]
  exact ⟨_, rfl⟩

/-- What the pallas_call runs from, and what it leaves. -/
theorem reg_pre (d : Dev nD) : (reg (fun c => m (iLoc c)) (fun _ => (freqRow : S1x128.Idx → Elt F .f32)) (fun c => m (yLoc c)) adm).pre d
    = iprop(((iLoc d ↦{fullShare} m (iLoc d)) ∗ (fLoc d ↦{fullShare} (freqRow : S1x128.Idx → Elt F .f32)) ∗ (yLoc d ↦{fullShare} m (yLoc d))) ∗ owesBelow d) := rfl
theorem reg_post (d : Dev nD) : (reg (fun c => m (iLoc c)) (fun _ => (freqRow : S1x128.Idx → Elt F .f32)) (fun c => m (yLoc c)) adm).post d
    = iprop(((iLoc d ↦{fullShare} m (iLoc d)) ∗ (fLoc d ↦{fullShare} (freqRow : S1x128.Idx → Elt F .f32)) ∗ (yLoc d ↦{fullShare} yVal m d)) ∗ owesBelow d) := rfl

/-- @main on the TensorCore of `d`: the host's operations, the SparseCore call, the pallas_call. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_one (F := F) d
  unfold SparseCore.Cfg.tcRes SparseCore.Cfg.tcEnd
  rw [main_eq, Pipeline.unscopedBufs_held d (V0 m d)]
  iintro ⟨#Hctx, Hst, ⟨Hb, Hh, Hts, -⟩, Hc, Ht⟩
  iapply (StableHlo.wp_seq (defs := (K (F := F)).defs (D (F := F))) 𝒱 none Set.univ d (Pipeline.ucRefs τ sig) _ ops seq_sub seq_fresh (V0 m d)) $$ [Hb Hh]
  · isplitl [Hb] <;> iassumption
  iintro ⟨Hb, Hh⟩
  ihave Hbufs := (held_out m d) $$ Hh
  icases Hbufs with ⟨H0, H1, H2, H3, H13, H14, H12⟩
  rw [wp_bind]
  iapply ((K (F := F)).wp_run (D (F := F)) 𝒱 (EH := EH) (P := P m) κ d 0) $$ [Hst H0 H1 H2 H3 H13 H14 H12 Hb Hts Hc Ht]
  isplitr; · iexact Hctx
  isplitl [Hst]; · iexact Hst
  isplitl [H1 H2 H13]
  · rw [st0_eq]
    isplitl [H1]; · iexact H1
    isplitl [H2]; · iexact H2
    iexact H13
  iintro ⟨Hst, Hdn⟩
  ihave Hdn' := (Entails.of_eq (dn0_eq m d)) $$ Hdn
  icases Hdn' with ⟨H1, H2, H13⟩
  ihave Hst' := (show ((K (F := F)).tcSt EH d ((0 : Fin 1).val + 1) : sProp 𝕄) ⊢ iprop(owesBelow d ∗ R) from Entails.of_eq hR) $$ Hst
  icases Hst' with ⟨HO, HR⟩
  ihave Hlev := (SparseCore.Cfg.ctx_levAts κ) $$ Hctx
  rw [wp_bind]
  iapply ((K (F := F)).wp_liftProg (D (F := F)) 𝒱 (SparseCore.T d) Set.univ none (.op (.customCall (Pipeline.entry 0) ()) .ret) _)
  iapply (Pipeline.RegionSeg.wp (pcfgs (F := F)) adm (pdats (fun c => m (iLoc c)) (fun _ => (freqRow : S1x128.Idx → Elt F .f32)) (fun c => m (yLoc c)) adm)
    (none : HIx 1) cells_inj EP defs₀ 𝒱₀ (K (F := F)).L (K (F := F)).lev
    (reg (fun c => m (iLoc c)) (fun _ => (freqRow : S1x128.Idx → Elt F .f32)) (fun c => m (yLoc c)) adm) d none (fun _ h => nomatch h) .ret _)
  rw [reg_pre, reg_post]
  isplitr [Hb H1 H12 H14 HO Hc Ht]
  · iintro ⟨Hb, ⟨H1, -, H14⟩, HO⟩
    rw [wp_ret, wp_pure, hR]
    imodintro
    imodintro
    isplitl [HO HR]
    · isplitl [HO] <;> iassumption
    isplitl [H0 H1 H2 H3 H13 H14]
    · isplitl [H0]; · iexact H0
      isplitl [H1]; · iexact H1
      isplitl [H2]; · iexact H2
      isplitl [H3]; · iexact H3
      isplitl [H13]; · iexact H13
      iexact H14
    isplitl [Hb] <;> iassumption
  isplitl [Hb]; · iexact Hb
  isplitl [H1 H12 H14 HO]
  · isplitl [H1 H12 H14]
    · isplitl [H1]; · iexact H1
      isplitl [H12]; · iexact H12
      iexact H14
    iexact HO
  isplitr; · iexact Hlev
  isplitl [Hc] <;> iassumption

/-! ## The end -/

def fq (d : Dev nD) (s' : Phys nD τ sig (Elt F)) : Prop :=
  (s'.mem.mem (oLoc d) = oVal m d ∧ s'.mem.mem (yLoc d) = yVal m d)
    ∧ s'.mem.mem (aLoc d) = m (aLoc d) ∧ s'.mem.mem (iLoc d) = m (iLoc d) ∧ s'.mem.mem (xLoc d) = m (xLoc d) ∧ s'.mem.mem (zLoc d) = m (zLoc d)

/-- A whole buffer held agrees with the memory, and is held still. -/
theorem agree {ℓ : Loc nD τ sig} (f : Buf (Elt F) ℓ) (s' : Phys nD τ sig (Elt F)) :
    iprop((ℓ ↦{fullShare} f) ∗ SI s') ⊢ iprop(⌜s'.mem.mem ℓ = f⌝ ∗ (SI s' : sProp 𝕄)) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H13, H14⟩, HSI⟩
  ihave H := (agree _ s') $$ [H0 HSI]
  · isplitl [H0] <;> iassumption
  icases H with ⟨%h0, HSI⟩
  ihave H := (agree _ s') $$ [H1 HSI]
  · isplitl [H1] <;> iassumption
  icases H with ⟨%h1, HSI⟩
  ihave H := (agree _ s') $$ [H2 HSI]
  · isplitl [H2] <;> iassumption
  icases H with ⟨%h2, HSI⟩
  ihave H := (agree _ s') $$ [H3 HSI]
  · isplitl [H3] <;> iassumption
  icases H with ⟨%h3, HSI⟩
  ihave H := (agree _ s') $$ [H13 HSI]
  · isplitl [H13] <;> iassumption
  icases H with ⟨%h13, HSI⟩
  ihave H := (agree _ s') $$ [H14 HSI]
  · isplitl [H14] <;> iassumption
  icases H with ⟨%h14, HSI⟩
  ipureintro; exact ⟨⟨h13, h14⟩, h0, h1, h2, h3⟩

/-- What the program leaves: both results, the arguments as launched, every semaphore at zero. -/
def QC : PUnit × MemSt nD τ sig (Elt F) → Prop := fun r =>
  (∀ d : Dev nD, (r.2.mem (oLoc d) = oVal m d ∧ r.2.mem (yLoc d) = yVal m d)
    ∧ r.2.mem (aLoc d) = m (aLoc d) ∧ r.2.mem (iLoc d) = m (iLoc d) ∧ r.2.mem (xLoc d) = m (xLoc d) ∧ r.2.mem (zLoc d) = m (zLoc d))
    ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.Run

end
-- ==== Proof.Pre.lean ====
/-
  What the preconditions say, element by element: every position is a row of the tables, and every entry of the sine
  table is the sine of its row's position times its column's frequency.
-/
module

public import proofs.«01_k».proof.Proof.Main
public import proofs.«01_k».proof.Proof.Gen.Pre_positions_in_table
public import proofs.«01_k».proof.Proof.Gen.Pre_sine_table
public import Idealize.ShloMosaic.Lib.ReduceAll
public import Idealize.ShloMosaic.Lib.WordArith

@[expose] public section

noncomputable section

namespace Cert.Proof.Run

open Idealize.ShloMosaic

variable {F : FTy → Type} [FloatOps F]

/-- A scalar has one index. -/
instance : Subsingleton (⟨0, ![]⟩ : Shape).Idx := ⟨fun a b => funext fun i => i.elim0⟩

/-- The two tests of one position, both true, put it between 0 and 8192. -/
theorem lt_of_tests (w : BitVec 32) (h0 : IntOp.cmpi .sge w 0#32 = 1#1) (h1 : IntOp.cmpi .slt w 8192#32 = 1#1) : w.toNat < 8192 := by
  simp only [IntOp.cmpi, WordArith.ofBool_eq_one_iff, BitVec.sle_eq_decide, BitVec.slt_eq_decide, decide_eq_true_eq, BitVec.toInt_eq_toNat_cond,
    BitVec.toNat_ofNat, Nat.reducePow, Nat.reduceMod] at h0 h1
  omega

theorem rows_lt (a : FVec F Cert.Pre_positions_in_table.S4x32x4096x128 .f32) (p : IVec Cert.Pre_positions_in_table.S4x4096 32)
    (x z : FVec F Cert.Pre_positions_in_table.S8192x128 .f32) (h : Cert.Pre_positions_in_table.fn a p x z = fun _ => 1#1)
    (j : Cert.Pre_positions_in_table.S4x4096.Idx) : (p j).toNat < 8192 := by
  have e := IntOp.andi_eq_one.1 (congrFun h fun i => i.elim0)
  exact lt_of_tests _ (Host.reduce_andi_all _ _ _ _ _ e.1 j) (Host.reduce_andi_all _ _ _ _ _ e.2 j)

theorem rows_lt' (a : FVec F Cert.Pre_sine_table.S4x32x4096x128 .f32) (p : IVec Cert.Pre_sine_table.S4x4096 32)
    (x z : FVec F Cert.Pre_sine_table.S8192x128 .f32) (h : Cert.Pre_sine_table.fn a p x z = fun _ => 1#1)
    (j : Cert.Pre_sine_table.S4x4096.Idx) : (p j).toNat < 8192 := by
  have e := IntOp.andi_eq_one.1 (IntOp.andi_eq_one.1 (congrFun h fun i => i.elim0)).1
  exact lt_of_tests _ (Host.reduce_andi_all _ _ _ _ _ e.1 j) (Host.reduce_andi_all _ _ _ _ _ e.2 j)

/-! ## The frequencies, twice -/

/-- The frequency that column `c` uses. -/
def half (c : Fin 128) : Fin 64 := ⟨c.val % 64, Nat.mod_lt _ (by decide)⟩

theorem half_lt {c : Fin 128} (h : c.val < 64) : (half c).val = c.val := Nat.mod_eq_of_lt h
theorem half_ge {c : Fin 128} (h : ¬ c.val < 64) : (half c).val + 64 = c.val := by
  show c.val % 64 + 64 = c.val
  omega

theorem twice_row {α : Type} (a : (⟨1, ![64]⟩ : Shape).Idx → α)
    (h : Shape.Concatenates [⟨1, ![64]⟩, ⟨1, ![64]⟩] ⟨1, ![128]⟩ 0) (c : Fin 128) :
    concatenate ⟨1, ![128]⟩ 0 [⟨⟨1, ![64]⟩, a⟩, ⟨⟨1, ![64]⟩, a⟩] h (ValueIdx.ix1 c) = a (ValueIdx.ix1 (half c)) := by
  by_cases hc : c.val < 64
  · exact concatenate_pair_apply_left (t := ⟨1, ![128]⟩) (s₁ := ⟨1, ![64]⟩) (s₂ := ⟨1, ![64]⟩) 0 _ _ h _ rfl _
      (by intro b; match b with | ⟨0, _⟩ => exact half_lt hc)
  · exact concatenate_pair_apply_right (t := ⟨1, ![128]⟩) (s₁ := ⟨1, ![64]⟩) (s₂ := ⟨1, ![64]⟩) 0 _ _ h _ rfl rfl _
      (by intro b hb; match b with | ⟨0, _⟩ => exact absurd rfl hb) (half_ge hc)

theorem twice_tab {α : Type} (a : (⟨2, ![8192, 64]⟩ : Shape).Idx → α)
    (h : Shape.Concatenates [⟨2, ![8192, 64]⟩, ⟨2, ![8192, 64]⟩] ⟨2, ![8192, 128]⟩ 1) (j : (⟨2, ![8192, 128]⟩ : Shape).Idx) :
    concatenate ⟨2, ![8192, 128]⟩ 1 [⟨⟨2, ![8192, 64]⟩, a⟩, ⟨⟨2, ![8192, 64]⟩, a⟩] h j = a (ValueIdx.ix2 (j 0) (half (j 1))) := by
  by_cases hc : (j 1).val < 64
  · exact concatenate_pair_apply_left (t := ⟨2, ![8192, 128]⟩) (s₁ := ⟨2, ![8192, 64]⟩) (s₂ := ⟨2, ![8192, 64]⟩) 1 _ _ h _ rfl _
      (by intro b; match b with | ⟨0, _⟩ => rfl | ⟨1, _⟩ => exact half_lt (c := j 1) hc)
  · exact concatenate_pair_apply_right (t := ⟨2, ![8192, 128]⟩) (s₁ := ⟨2, ![8192, 64]⟩) (s₂ := ⟨2, ![8192, 64]⟩) 1 _ _ h _ rfl rfl _
      (by intro b hb; match b with | ⟨0, _⟩ => rfl | ⟨1, _⟩ => exact absurd rfl hb) (half_ge (c := j 1) hc)

theorem freqRow_apply (c : Fin 128) : freqRow (F := F) (ValueIdx.ix2 (0 : Fin 1) c) = freq (F := F) (ValueIdx.ix1 (half c)) :=
  (shapeCast_apply (t := ⟨2, ![1, 128]⟩) (join (freq (F := F)) freq) _ (ValueIdx.ix2 (0 : Fin 1) c) (ValueIdx.ix1 c) (by
      rw [Shape.rowMajor_val_two, Shape.rowMajor_val_one]
      show c.val = 0 * 128 + c.val
      omega)).trans
    (twice_row _ _ c)

/-! ## The sine table -/

/-- The sine of row `j 0` times the frequency of column `j 1`. -/
def sinTab (j : (⟨2, ![8192, 128]⟩ : Shape).Idx) : Ideal .f32 :=
  FloatOps.sin (φ := .f32) (FloatOps.mulf (φ := .f32) (FloatOps.sitofp .f32 (BitVec.ofNat 32 (j 0).val))
    ((freqRow (F := Ideal)) (ValueIdx.ix2 (0 : Fin 1) (j 1))))

theorem sine_entry (a : FVec Ideal Cert.Pre_sine_table.S4x32x4096x128 .f32) (p : IVec Cert.Pre_sine_table.S4x4096 32)
    (x z : FVec Ideal Cert.Pre_sine_table.S8192x128 .f32) (h : Cert.Pre_sine_table.fn a p x z = fun _ => 1#1)
    (j : Cert.Pre_sine_table.S8192x128.Idx) : z j = sinTab j := by
  have e := Host.reduce_andi_all _ _ _ _ _ (IntOp.andi_eq_one.1 (congrFun h fun i => i.elim0)).2 j
  have e' := of_decide_eq_true ((WordArith.ofBool_eq_one_iff _).1 e)
  refine e'.trans (congrArg Idealize.ShloMosaic.Ideal.sin ((twice_tab _ _ j).trans ?_))
  exact congrArg (fun q : Ideal .f32 => FloatOps.mulf (φ := .f32) (FloatOps.sitofp .f32 (BitVec.ofNat 32 (j 0).val)) q)
    (freqRow_apply (F := Ideal) (j 1)).symm

end Cert.Proof.Run

end
-- ==== Proof.Value.lean ====
/-
  What the reference computes: with every position a row of the tables, `take` along the rows reads the row that the
  position names, so each of the two results is one table's rows laid out by the positions.
-/
module

public import proofs.«01_k».proof.Proof.Setup
public import proofs.«01_k».proof.Proof.Gen.ReferenceIdeal
public import proofs.«01_k».proof.Proof.Gen.ReferenceIdeal.Run
public import Idealize.ShloMosaic.Lib.ReduceAll
public import Idealize.ShloMosaic.Lib.WordArith
public import Idealize.ShloMosaic.Lib.Affine

@[expose] public section

noncomputable section

namespace Cert.Proof.Ref

open Cert.ReferenceIdeal Cert.ReferenceIdeal.Gen Idealize.ShloMosaic Idealize.ShloMosaic.ValueIdx

variable {F : FTy → Type} [FloatOps F]

/-- The gather takes, at `(b, l, c)`, entry `c` of the row that the index word at `(b, l)` names, cut to the table. -/
theorem gather_apply {α : Type} (x : S8192x128.Idx → α) (idx : IVec S4x4096x1 32) (y : S4x4096x128.Idx) :
    Host.gather gather_S8192x128_S4x4096x1_S4x4096x128_2_0_n_n_0_2_1128 x idx y
      = x (ix2 ⟨min (idx (ix3 (y 0) (y 1) (0 : Fin 1))).toInt.toNat 8191, by omega⟩ (y 2)) := by
  have h0 : (0 : Fin 2) ∈ gather_S8192x128_S4x4096x1_S4x4096x128_2_0_n_n_0_2_1128.startIndexMap := List.mem_singleton.mpr rfl
  have h1 : (1 : Fin 2) ∉ gather_S8192x128_S4x4096x1_S4x4096x128_2_0_n_n_0_2_1128.startIndexMap :=
    fun h => absurd (List.mem_singleton.mp h) (by decide)
  unfold Host.gather
  refine congrArg x (funext fun a => Fin.ext ?_)
  match a with
  | ⟨0, _⟩ =>
    show GatherDims.start _ y idx 0 + GatherDims.batchCoord _ y 0 + GatherDims.offCoord _ y 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos h0]
    refine congrArg (fun w : BitVec 32 => min w.toInt.toNat 8191) (congrArg idx (funext fun b => Fin.ext ?_))
    match b with
    | ⟨0, _⟩ => rfl
    | ⟨1, _⟩ => rfl
    | ⟨2, _⟩ => rfl
  | ⟨1, _⟩ =>
    show GatherDims.start _ y idx 1 + GatherDims.batchCoord _ y 1 + GatherDims.offCoord _ y 1 = _
    rw [GatherDims.batchCoord_eq_zero _ _ _ List.not_mem_nil]
    unfold GatherDims.start
    rw [dif_neg h1]
    simp only [Nat.zero_add, Nat.add_zero]
    rfl

/-- The index words the reference gathers by: a negative position counts from the end of the table. -/
def wrapped (pos : IVec S4x4096 32) : IVec S4x4096x1 32 :=
  broadcastInDim S4x4096x1 ![0, 1] bcast_S4x4096_S4x4096x1_0_1
    (select (cmpi .slt pos (broadcastInDim S4x4096 ![] bcast_S_S4x4096 (constantI S_ 32 0#32)))
      (addi pos (broadcastInDim S4x4096 ![] bcast_S_S4x4096 (constantI S_ 32 8192#32))) pos)

/-- Rows of `tab` taken by `pos`, an index outside the table answered by one constant. -/
def taken (pos : IVec S4x4096 32) (tab : FVec F S8192x128 .f32) : FVec F S4x4096x128 .f32 :=
  select (broadcastInDim S4x4096x128 ![0, 1] bcast_S4x4096_S4x4096x128_0_1
      (Host.reduce IntOp.andi
        (andi (cmpi .sge (wrapped pos) (broadcastInDim S4x4096x1 ![] bcast_S_S4x4096x1 (constantI S_ 32 0#32)))
          (cmpi .sle (wrapped pos) (broadcastInDim S4x4096x1 ![0, 1, 2] bcast_S1x1x1_S4x4096x1_0_1_2
            (broadcastInDim S1x1x1 ![2] bcast_S1_S1x1x1_2 (constantI S1 32 8191#32)))))
        (constantI S_ 1 1#1) reducesTo_S4x4096x1_S4x4096_d2 h_S_))
    (Host.gather gather_S8192x128_S4x4096x1_S4x4096x128_2_0_n_n_0_2_1128 tab (wrapped pos))
    (broadcastInDim S4x4096x128 ![] bcast_S_S4x4096x128 (constant S_ .f32 0x7FC00000#32))

/-- A word below 8192 is not negative, and passes both tests of the table's rows. -/
theorem word_facts (w : BitVec 32) (h : w.toNat < 8192) :
    IntOp.cmpi .slt w 0#32 = 0#1 ∧ IntOp.cmpi .sge w 0#32 = 1#1 ∧ IntOp.cmpi .sle w 8191#32 = 1#1 ∧ w.toInt.toNat = w.toNat := by
  have e : w.toInt = (w.toNat : Int) := by rw [BitVec.toInt_eq_toNat_cond]; omega
  have e0 : (0#32 : BitVec 32).toInt = 0 := by decide
  have e1 : (8191#32 : BitVec 32).toInt = 8191 := by decide
  refine ⟨?_, ?_, ?_, by omega⟩
  · show BitVec.ofBool (w.slt 0#32) = 0#1
    rw [BitVec.slt_eq_decide, e, e0, decide_eq_false (by omega)]; rfl
  · show BitVec.ofBool ((0#32 : BitVec 32).sle w) = 1#1
    rw [BitVec.sle_eq_decide, e, e0, decide_eq_true (by omega)]; rfl
  · show BitVec.ofBool (w.sle 8191#32) = 1#1
    rw [BitVec.sle_eq_decide, e, e1, decide_eq_true (by omega)]; rfl

theorem wrapped_apply (pos : IVec S4x4096 32) (hp : ∀ j, (pos j).toNat < 8192) (k : S4x4096x1.Idx) :
    wrapped pos k = pos (ix2 (k 0) (k 1)) := by
  show Scalar.select (IntOp.cmpi .slt (pos _) 0#32) _ (pos _) = _
  rw [(word_facts _ (hp _)).1]
  refine congrArg pos (funext fun a => Fin.ext ?_)
  match a with
  | ⟨0, _⟩ => rfl
  | ⟨1, _⟩ => rfl

theorem sel_one {α : Type} {s : Shape} (c : IVec s 1) (a b : s.Idx → α) (y : s.Idx) (h : c y = 1#1) : select c a b y = a y := by
  show Scalar.select (c y) (a y) (b y) = a y
  rw [h]; rfl

theorem taken_eq (pos : IVec S4x4096 32) (hp : ∀ j, (pos j).toNat < 8192) (tab : FVec F S8192x128 .f32) :
    taken pos tab = Cert.Proof.Run.cosOut (F := F) pos tab := by
  funext y
  have hm : broadcastInDim S4x4096x128 ![0, 1] bcast_S4x4096_S4x4096x128_0_1
      (Host.reduce IntOp.andi
        (andi (cmpi .sge (wrapped pos) (broadcastInDim S4x4096x1 ![] bcast_S_S4x4096x1 (constantI S_ 32 0#32)))
          (cmpi .sle (wrapped pos) (broadcastInDim S4x4096x1 ![0, 1, 2] bcast_S1x1x1_S4x4096x1_0_1_2
            (broadcastInDim S1x1x1 ![2] bcast_S1_S1x1x1_2 (constantI S1 32 8191#32)))))
        (constantI S_ 1 1#1) reducesTo_S4x4096x1_S4x4096_d2 h_S_) y = 1#1 :=
    Host.reduce_andi_one _ _ _ _ _ rfl fun k => IntOp.andi_eq_one.2
      ⟨by show IntOp.cmpi .sge (wrapped pos k) 0#32 = 1#1; rw [wrapped_apply pos hp]; exact (word_facts _ (hp _)).2.1,
        by show IntOp.cmpi .sle (wrapped pos k) 8191#32 = 1#1; rw [wrapped_apply pos hp]; exact (word_facts _ (hp _)).2.2.1⟩
  refine (sel_one _ _ _ y hm).trans ?_
  refine (gather_apply tab (wrapped pos) y).trans (congrArg tab (funext fun a => Fin.ext ?_))
  match a with
  | ⟨0, _⟩ =>
    show min (wrapped pos _).toInt.toNat 8191 = (pos _).toNat % 8192
    rw [wrapped_apply pos hp, (word_facts _ (hp _)).2.2.2]
    have := hp (ix2 (y 0) (y 1))
    show min (pos (ix2 (y 0) (y 1))).toNat 8191 = (pos (ix2 (y 0) (y 1))).toNat % 8192
    omega
  | ⟨1, _⟩ => rfl

/-- The reference's run: both results, the arguments as they were, every counter zero. -/
theorem run_main (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      (r.2.mem ((c.tc : Thread nD τ).loc main_v0) = taken (F := F) (m ((c.tc : Thread nD τ).loc main_arg1)) (m ((c.tc : Thread nD τ).loc main_arg2))
        ∧ r.2.mem ((c.tc : Thread nD τ).loc main_v1) = taken (F := F) (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => ⟨⟨(h c).1, (h c).2.1⟩, (h c).2.2⟩, sem_eq_zero_of_no_sems (by decide) r.2⟩)
    (Cert.ReferenceIdeal.Value.run m ρ)

end Cert.Proof.Ref

end
-- ==== Proof.lean ====
/-
  The certificate: the kernel and its idealization run to a quiescent end with their arguments unchanged, the
  reference does too, and the idealized kernel's two results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_positions_in_table
public import proofs.«01_k».proof.Proof.Gen.Pre_sine_table
public import proofs.«01_k».proof.Proof.Main
public import proofs.«01_k».proof.Proof.Pre
public import proofs.«01_k».proof.Proof.Value
public import Idealize.ShloMosaic.Adequacy
public import Idealize.ShloMosaic.Init

@[expose] public section

noncomputable section

namespace Cert.Proof

open Idealize.ShloMosaic Idealize.SL.Sem

/-- The idealized kernel at bit patterns has the kernel's bodies: the two programs are one text. -/
theorem bodies_eq : Cert.Kernel.defs₀ (F := Bits) = Cert.KernelIdeal.defs₀ (F := Bits) := by
  funext p l a
  match p, l, a with
  | .scVector c s, (0 : Fin 2), a => rfl
  | .scVector c s, (1 : Fin 2), a => rfl
  | .scScalar c, (0 : Fin 2), a => rfl
  | .scScalar c, (1 : Fin 2), a => rfl
  | .tc, (0 : Fin 2), a => rfl
  | .tc, (1 : Fin 2), a => rfl

theorem defs_eq : Cert.Kernel.defs (F := Bits) = Cert.KernelIdeal.defs (F := Bits) :=
  congrArg (fun D => Cert.KernelIdeal.sc.defs (Pipeline.defs Cert.KernelIdeal.pcfgs D)) bodies_eq

theorem frame_kernel : Cert.quiescent_Kernel := by
  intro m ρ h
  have e := Run.run_main (F := Bits) m ρ fun d j => Run.rows_lt _ _ _ _ (h d) j
  rw [← defs_eq] at e
  exact (θ_run Cert.Kernel.defs _ _).mono (fun _ e => ⟨fun c => (e.1 c).2, e.2⟩) e

theorem frame_ideal : Cert.quiescent_KernelIdeal := fun m ρ h =>
  (θ_run Cert.KernelIdeal.defs _ _).mono (fun _ e => ⟨fun c => (e.1 c).2, e.2⟩)
    (Run.run_main (F := Ideal) m ρ fun d j => Run.rows_lt _ _ _ _ (h d) j)

theorem frame_ideal_sine : Cert.quiescent_KernelIdeal_pre_sine_table := fun m ρ h =>
  (θ_run Cert.KernelIdeal.defs _ _).mono (fun _ e => ⟨fun c => (e.1 c).2, e.2⟩)
    (Run.run_main (F := Ideal) m ρ fun d j => Run.rows_lt' _ _ _ _ (h d) j)

theorem frame_reference : Cert.quiescent_ReferenceIdeal := fun m ρ _ =>
  (θ_run Cert.ReferenceIdeal.defs _ _).mono (fun _ e => ⟨fun c => (e.1 c).2, e.2⟩) (Ref.run_main (F := Ideal) m ρ)

theorem frame_reference_sine : Cert.quiescent_ReferenceIdeal_pre_sine_table := fun m ρ _ =>
  (θ_run Cert.ReferenceIdeal.defs _ _).mono (fun _ e => ⟨fun c => (e.1 c).2, e.2⟩) (Ref.run_main (F := Ideal) m ρ)

/-- Where the sine table holds the sines of its rows' angles, the sines of the positions' angles are its rows. -/
theorem sin_eq (pos : Cert.KernelIdeal.S4x4096.Idx → BitVec 32) (z : Cert.KernelIdeal.S8192x128.Idx → Ideal .f32)
    (hp : ∀ j, (pos j).toNat < 8192) (hz : ∀ j, z j = Run.sinTab j) :
    Run.cosOut (F := Ideal) pos z = Run.sinOut (F := Ideal) pos Run.freqRow := by
  funext y
  have hw : BitVec.ofNat 32 ((pos (ValueIdx.ix2 (y 0) (y 1))).toNat % 8192) = pos (ValueIdx.ix2 (y 0) (y 1)) := by
    rw [Nat.mod_eq_of_lt (hp _), BitVec.ofNat_toNat, BitVec.setWidth_eq]
  exact (hz _).trans (congrArg (fun w : BitVec 32 => FloatOps.sin (F := Ideal) (φ := .f32)
    (FloatOps.mulf (φ := .f32) (FloatOps.sitofp .f32 w) (Run.freqRow (F := Ideal) (ValueIdx.ix2 (0 : Fin 1) (y 2))))) hw)

theorem equal : Cert.algebraic_KernelIdeal_ReferenceIdeal_pre_sine_table := by
  intro m ρ m' ρ' h hag
  have hp : Run.PreOK m := fun d j => Run.rows_lt' _ _ _ _ (h d) j
  refine ⟨fun d => Run.oVal m d, fun d => Run.yVal m d, ?_, ?_⟩
  · exact (θ_run Cert.KernelIdeal.defs _ _).mono (fun _ e c => ⟨(e.1 c).1.1, (e.1 c).1.2, (e.1 c).2⟩) (Run.run_main (F := Ideal) m ρ hp)
  · refine (θ_run Cert.ReferenceIdeal.defs _ _).mono (fun _ e c => ⟨(e.1 c).1.1.trans ?_, (e.1 c).1.2.trans ?_, (e.1 c).2⟩)
      (Ref.run_main (F := Ideal) m' ρ')
    · rw [(hag c).2.1, (hag c).2.2.1]
      exact Ref.taken_eq (F := Ideal) _ (hp c) _
    · rw [(hag c).2.1, (hag c).2.2.2]
      exact (Ref.taken_eq (F := Ideal) _ (hp c) _).trans (sin_eq _ _ (hp c) fun j => Run.sine_entry _ _ _ _ (h c) j)

theorem claim : Cert.Claim :=
  ⟨Cert.Kernel.Gen.facts, Cert.KernelIdeal.Gen.facts, Cert.ReferenceIdeal.Gen.facts, Cert.Pre_positions_in_table.Gen.facts,
    Cert.Pre_sine_table.Gen.facts, frame_kernel, frame_ideal, frame_ideal_sine, frame_reference, frame_reference_sine, trivial, equal⟩

end Cert.Proof

end
